-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![4096, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  bcast_S_S256x32 : S_.BroadcastsInDim S256x32 (![] : Fin 0 → Fin S256x32.rank)

variable [Facts]

def fn_part1 {F : FTy → Type} [FloatOps F] (main_v14 : IVec S512 1) (main_v17 : IVec S512x256 1) (main_v18 : FVec F S256x32 .bf16) : IVec S512x256 1 × IVec S256x32 1 × IVec S512 1 :=
  let main_cst_3 : FVec F S_ .bf16 := constant S_ .bf16 0x7F80#16
  let main_v19 : FVec F S256x32 .bf16 := broadcastInDim S256x32 ![] bcast_S_S256x32 main_cst_3
  let main_v20 : IVec S256x32 1 := cmpf .olt main_v18 main_v19
  (main_v17, main_v20, main_v14)

def fn {F : FTy → Type} [FloatOps F] (main_arg0 : FVec F S512x256 .bf16) (main_arg1 : FVec F S256x32 .bf16) (main_arg2 : IVec S512x2 32) (main_arg3 : FVec F S4x256x512 .bf16) : IVec S512x256 1 × IVec S256x32 1 × IVec S512 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 32#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_c_2 : IVec S_ 32 := constantI S_ 32 32#32
  let main_v11 : IVec S512 32 := broadcastInDim S512 ![] bcast_S_S512 main_c_2
  let main_v12 : IVec S512 1 := cmpi .slt main_v3 main_v11
  let main_v13 : IVec S512 1 := andi main_v10 main_v12
  let main_v14 : IVec S512 1 := ori main_v8 main_v13
  let main_v15 : FVec F S512x256 .bf16 := Host.absf main_arg0
  let main_cst : FVec F S_ .bf16 := constant S_ .bf16 0x7F80#16
  let main_v16 : FVec F S512x256 .bf16 := broadcastInDim S512x256 ![] bcast_S_S512x256 main_cst
  let main_v17 : IVec S512x256 1 := cmpf .olt main_v15 main_v16
  let main_v18 : FVec F S256x32 .bf16 := Host.absf main_arg1
  fn_part1 (F := F) main_v14 main_v17 main_v18
-- ==== Pre_finite_and_routed_ReferenceIdeal.lean ====
abbrev S4096x256 : Shape := ⟨2, ![4096, 256]⟩
abbrev S256x32 : Shape := ⟨2, ![256, 32]⟩
abbrev S4096x2 : Shape := ⟨2, ![4096, 2]⟩
abbrev S32x256x512 : Shape := ⟨3, ![32, 256, 512]⟩
abbrev S4096x1 : Shape := ⟨2, ![4096, 1]⟩
abbrev S4096 : Shape := ⟨1, ![4096]⟩
abbrev S_ : Shape := ⟨0, ![]⟩

class Facts : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S_S4096x256 : S_.BroadcastsInDim S4096x256 (![] : Fin 0 → Fin S4096x256.rank)
  bcast_S_S256x32 : S_.BroadcastsInDim S256x32 (![] : Fin 0 → Fin S256x32.rank)

variable [Facts]

def fn_part1 {F : FTy → Type} [FloatOps F] (main_v14 : IVec S4096 1) (main_v17 : IVec S4096x256 1) (main_v18 : FVec F S256x32 .bf16) : IVec S4096x256 1 × IVec S256x32 1 × IVec S4096 1 :=
  let main_cst_3 : FVec F S_ .bf16 := constant S_ .bf16 0x7F80#16
  let main_v19 : FVec F S256x32 .bf16 := broadcastInDim S256x32 ![] bcast_S_S256x32 main_cst_3
  let main_v20 : IVec S256x32 1 := cmpf .olt main_v18 main_v19
  (main_v17, main_v20, main_v14)

def fn {F : FTy → Type} [FloatOps F] (main_arg0 : FVec F S4096x256 .bf16) (main_arg1 : FVec F S256x32 .bf16) (main_arg2 : IVec S4096x2 32) (main_arg3 : FVec F S32x256x512 .bf16) : IVec S4096x256 1 × IVec S256x32 1 × IVec S4096 1 :=
  let main_v0 : IVec S4096x1 32 := (extractStridedSlice S4096x1 ![0, 0] · slices_S4096x2_S4096x1_0_0) main_arg2
  let main_v1 : IVec S4096 32 := shapeCast S4096 main_v0 shapeCasts_S4096x1_S4096
  let main_v2 : IVec S4096x1 32 := (extractStridedSlice S4096x1 ![0, 1] · slices_S4096x2_S4096x1_0_1) main_arg2
  let main_v3 : IVec S4096 32 := shapeCast S4096 main_v2 shapeCasts_S4096x1_S4096
  let main_c : IVec S_ 32 := constantI S_ 32 0#32
  let main_v4 : IVec S4096 32 := broadcastInDim S4096 ![] bcast_S_S4096 main_c
  let main_v5 : IVec S4096 1 := cmpi .sge main_v1 main_v4
  let main_c_0 : IVec S_ 32 := constantI S_ 32 32#32
  let main_v6 : IVec S4096 32 := broadcastInDim S4096 ![] bcast_S_S4096 main_c_0
  let main_v7 : IVec S4096 1 := cmpi .slt main_v1 main_v6
  let main_v8 : IVec S4096 1 := andi main_v5 main_v7
  let main_c_1 : IVec S_ 32 := constantI S_ 32 0#32
  let main_v9 : IVec S4096 32 := broadcastInDim S4096 ![] bcast_S_S4096 main_c_1
  let main_v10 : IVec S4096 1 := cmpi .sge main_v3 main_v9
  let main_c_2 : IVec S_ 32 := constantI S_ 32 32#32
  let main_v11 : IVec S4096 32 := broadcastInDim S4096 ![] bcast_S_S4096 main_c_2
  let main_v12 : IVec S4096 1 := cmpi .slt main_v3 main_v11
  let main_v13 : IVec S4096 1 := andi main_v10 main_v12
  let main_v14 : IVec S4096 1 := ori main_v8 main_v13
  let main_v15 : FVec F S4096x256 .bf16 := Host.absf main_arg0
  let main_cst : FVec F S_ .bf16 := constant S_ .bf16 0x7F80#16
  let main_v16 : FVec F S4096x256 .bf16 := broadcastInDim S4096x256 ![] bcast_S_S4096x256 main_cst
  let main_v17 : IVec S4096x256 1 := cmpf .olt main_v15 main_v16
  let main_v18 : FVec F S256x32 .bf16 := Host.absf main_arg1
  fn_part1 (F := F) main_v14 main_v17 main_v18
-- ==== Kernel.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S512x512 : Shape := ⟨2, ![512, 512]⟩
abbrev S8x512x256 : Shape := ⟨3, ![8, 512, 256]⟩
abbrev S8x512x32 : Shape := ⟨3, ![8, 512, 32]⟩
abbrev S7x512x256 : Shape := ⟨3, ![7, 512, 256]⟩
abbrev S2x512x256 : Shape := ⟨3, ![2, 512, 256]⟩
abbrev S4 : Shape := ⟨1, ![4]⟩
abbrev S3 : Shape := ⟨1, ![3]⟩
abbrev S7 : Shape := ⟨1, ![7]⟩
abbrev S_ : Shape := ⟨0, ![]⟩
abbrev S512x32 : Shape := ⟨2, ![512, 32]⟩
abbrev S512 : Shape := ⟨1, ![512]⟩
abbrev S512x1 : Shape := ⟨2, ![512, 1]⟩
abbrev S1x512x256 : Shape := ⟨3, ![1, 512, 256]⟩
abbrev S1x512x32 : Shape := ⟨3, ![1, 512, 32]⟩
abbrev S1x256x512 : Shape := ⟨3, ![1, 256, 512]⟩
abbrev S256x512 : Shape := ⟨2, ![256, 512]⟩
abbrev S1 : Shape := ⟨1, ![1]⟩
abbrev S256x256 : Shape := ⟨2, ![256, 256]⟩

abbrev nBuf : Space → Nat
  | .hbm => 5
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x2, .i32⟩
  | .local _ .vmem, ⟨3, _⟩ => ⟨S4x256x512, .bf16⟩
  | .local _ .vmem, ⟨4, _⟩ => ⟨S512x512, .f32⟩
  | .local _ .vmem, ⟨5, _⟩ => ⟨S8x512x256, .bf16⟩
  | .local _ .vmem, ⟨6, _⟩ => ⟨S8x512x32, .bf16⟩
  | .local _ .vmem, ⟨7, _⟩ => ⟨S4x256x512, .bf16⟩
  | .local _ .vmem, ⟨8, _⟩ => ⟨S7x512x256, .bf16⟩
  | .local _ .vmem, ⟨9, _⟩ => ⟨S7x512x256, .bf16⟩
  | .local _ .vmem, ⟨10, _⟩ => ⟨S2x512x256, .bf16⟩
  | .local _ .vmem, ⟨11, _⟩ => ⟨S2x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_19 : BitVec 32 := 1#32
  let v36 : BitVec 32 := Scalar.muli v34 c1_i32_19
  let v37 : BitVec 32 := Scalar.addi c0_i32_20 v36
  v37.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_22 : BitVec 32 := 1#32
  let v38 : BitVec 32 := Scalar.muli v31 c1_i32_22
  let v39 : BitVec 32 := Scalar.addi c0_i32_23 v38
  v39.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v81 : Index := Scalar.indexCast v5
  let c0_34 : Index := 0#32
  let c0_35 : Index := 0#32
  ![v81.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v86 : Index := Scalar.indexCast v5
  let c0_36 : Index := 0#32
  let c0_37 : Index := 0#32
  ![v86.toNat, 0, 0]
def k0_off3 (d0 : Dev nD) (c0_i32_60 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v110 : BitVec 32 := Scalar.subi v5 c0_i32_60
  let c8_i32_61 : BitVec 32 := 8#32
  let c0_i32_62 : BitVec 32 := 0#32
  let v111 : BitVec 1 := Scalar.cmpi .eq c8_i32_61 c0_i32_62
  let c1_i32_63 : BitVec 32 := 1#32
  let v112 : BitVec 32 := Scalar.select v111 c1_i32_63 c8_i32_61
  let v113 : BitVec 32 := Scalar.remsi v110 v112
  let c0_i32_65 : BitVec 32 := 0#32
  let v115 : BitVec 1 := Scalar.cmpi .slt v113 c0_i32_65
  let c0_i32_66 : BitVec 32 := 0#32
  let v116 : BitVec 1 := Scalar.cmpi .slt v112 c0_i32_66
  let v117 : BitVec 1 := Scalar.xori v115 v116
  let c0_i32_64 : BitVec 32 := 0#32
  let v114 : BitVec 1 := Scalar.cmpi .ne v113 c0_i32_64
  let v118 : BitVec 1 := Scalar.andi v117 v114
  let v119 : BitVec 32 := Scalar.addi v113 v112
  let v120 : BitVec 32 := Scalar.select v118 v119 v113
  let c0_i32_71 : BitVec 32 := 0#32
  let c0_i32_72 : BitVec 32 := 0#32
  ![v120.toNat, 0, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_69 : BitVec 32 := 1#32
  let v121 : BitVec 32 := Scalar.muli v31 c1_i32_69
  let v122 : BitVec 32 := Scalar.addi c0_i32_70 v121
  v122.toNat
def k0_off4 (d0 : Dev nD) (c0_i32_75 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v131 : BitVec 32 := Scalar.subi v5 c0_i32_75
  let c8_i32_76 : BitVec 32 := 8#32
  let c0_i32_77 : BitVec 32 := 0#32
  let v132 : BitVec 1 := Scalar.cmpi .eq c8_i32_76 c0_i32_77
  let c1_i32_78 : BitVec 32 := 1#32
  let v133 : BitVec 32 := Scalar.select v132 c1_i32_78 c8_i32_76
  let v134 : BitVec 32 := Scalar.remsi v131 v133
  let c0_i32_80 : BitVec 32 := 0#32
  let v136 : BitVec 1 := Scalar.cmpi .slt v134 c0_i32_80
  let c0_i32_81 : BitVec 32 := 0#32
  let v137 : BitVec 1 := Scalar.cmpi .slt v133 c0_i32_81
  let v138 : BitVec 1 := Scalar.xori v136 v137
  let c0_i32_79 : BitVec 32 := 0#32
  let v135 : BitVec 1 := Scalar.cmpi .ne v134 c0_i32_79
  let v139 : BitVec 1 := Scalar.andi v138 v135
  let v140 : BitVec 32 := Scalar.addi v134 v133
  let v141 : BitVec 32 := Scalar.select v139 v140 v134
  let c0_i32_86 : BitVec 32 := 0#32
  let c0_i32_87 : BitVec 32 := 0#32
  ![v141.toNat, 0, 0]
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_84 : BitVec 32 := 1#32
  let v142 : BitVec 32 := Scalar.muli v31 c1_i32_84
  let v143 : BitVec 32 := Scalar.addi c0_i32_85 v142
  v143.toNat
def k0_off5 (d0 : Dev nD) (c0_i32_90 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v152 : BitVec 32 := Scalar.addi v5 c0_i32_90
  let c8_i32_91 : BitVec 32 := 8#32
  let c0_i32_92 : BitVec 32 := 0#32
  let v153 : BitVec 1 := Scalar.cmpi .eq c8_i32_91 c0_i32_92
  let c1_i32_93 : BitVec 32 := 1#32
  let v154 : BitVec 32 := Scalar.select v153 c1_i32_93 c8_i32_91
  let v155 : BitVec 32 := Scalar.remsi v152 v154
  let c0_i32_95 : BitVec 32 := 0#32
  let v157 : BitVec 1 := Scalar.cmpi .slt v155 c0_i32_95
  let c0_i32_96 : BitVec 32 := 0#32
  let v158 : BitVec 1 := Scalar.cmpi .slt v154 c0_i32_96
  let v159 : BitVec 1 := Scalar.xori v157 v158
  let c0_i32_94 : BitVec 32 := 0#32
  let v156 : BitVec 1 := Scalar.cmpi .ne v155 c0_i32_94
  let v160 : BitVec 1 := Scalar.andi v159 v156
  let v161 : BitVec 32 := Scalar.addi v155 v154
  let v162 : BitVec 32 := Scalar.select v160 v161 v155
  let c0_i32_101 : BitVec 32 := 0#32
  let c0_i32_102 : BitVec 32 := 0#32
  ![v162.toNat, 0, 0]
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_99 : BitVec 32 := 1#32
  let v163 : BitVec 32 := Scalar.muli v34 c1_i32_99
  let v164 : BitVec 32 := Scalar.addi c0_i32_100 v163
  v164.toNat
def k0_off6 (d0 : Dev nD) (c0_i32_105 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v173 : BitVec 32 := Scalar.addi v5 c0_i32_105
  let c8_i32_106 : BitVec 32 := 8#32
  let c0_i32_107 : BitVec 32 := 0#32
  let v174 : BitVec 1 := Scalar.cmpi .eq c8_i32_106 c0_i32_107
  let c1_i32_108 : BitVec 32 := 1#32
  let v175 : BitVec 32 := Scalar.select v174 c1_i32_108 c8_i32_106
  let v176 : BitVec 32 := Scalar.remsi v173 v175
  let c0_i32_110 : BitVec 32 := 0#32
  let v178 : BitVec 1 := Scalar.cmpi .slt v176 c0_i32_110
  let c0_i32_111 : BitVec 32 := 0#32
  let v179 : BitVec 1 := Scalar.cmpi .slt v175 c0_i32_111
  let v180 : BitVec 1 := Scalar.xori v178 v179
  let c0_i32_109 : BitVec 32 := 0#32
  let v177 : BitVec 1 := Scalar.cmpi .ne v176 c0_i32_109
  let v181 : BitVec 1 := Scalar.andi v180 v177
  let v182 : BitVec 32 := Scalar.addi v176 v175
  let v183 : BitVec 32 := Scalar.select v181 v182 v176
  let c0_i32_116 : BitVec 32 := 0#32
  let c0_i32_117 : BitVec 32 := 0#32
  ![v183.toNat, 0, 0]
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_114 : BitVec 32 := 1#32
  let v184 : BitVec 32 := Scalar.muli v34 c1_i32_114
  let v185 : BitVec 32 := Scalar.addi c0_i32_115 v184
  v185.toNat
def k0_off7 (d0 : Dev nD) (c0_i32_121 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_120 : BitVec 32 := 1#32
  let v194 : BitVec 32 := Scalar.subi v5 c1_i32_120
  let v195 : BitVec 32 := Scalar.subi v194 c0_i32_121
  let c8_i32_122 : BitVec 32 := 8#32
  let c0_i32_123 : BitVec 32 := 0#32
  let v196 : BitVec 1 := Scalar.cmpi .eq c8_i32_122 c0_i32_123
  let c1_i32_124 : BitVec 32 := 1#32
  let v197 : BitVec 32 := Scalar.select v196 c1_i32_124 c8_i32_122
  let v198 : BitVec 32 := Scalar.remsi v195 v197
  let c0_i32_126 : BitVec 32 := 0#32
  let v200 : BitVec 1 := Scalar.cmpi .slt v198 c0_i32_126
  let c0_i32_127 : BitVec 32 := 0#32
  let v201 : BitVec 1 := Scalar.cmpi .slt v197 c0_i32_127
  let v202 : BitVec 1 := Scalar.xori v200 v201
  let c0_i32_125 : BitVec 32 := 0#32
  let v199 : BitVec 1 := Scalar.cmpi .ne v198 c0_i32_125
  let v203 : BitVec 1 := Scalar.andi v202 v199
  let v204 : BitVec 32 := Scalar.addi v198 v197
  let v205 : BitVec 32 := Scalar.select v203 v204 v198
  let c0_i32_132 : BitVec 32 := 0#32
  let c0_i32_133 : BitVec 32 := 0#32
  ![v205.toNat, 0, 0]
def k0_off8 (d0 : Dev nD) (c0_i32_137 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_136 : BitVec 32 := 1#32
  let v214 : BitVec 32 := Scalar.subi v5 c1_i32_136
  let v215 : BitVec 32 := Scalar.subi v214 c0_i32_137
  let c8_i32_138 : BitVec 32 := 8#32
  let c0_i32_139 : BitVec 32 := 0#32
  let v216 : BitVec 1 := Scalar.cmpi .eq c8_i32_138 c0_i32_139
  let c1_i32_140 : BitVec 32 := 1#32
  let v217 : BitVec 32 := Scalar.select v216 c1_i32_140 c8_i32_138
  let v218 : BitVec 32 := Scalar.remsi v215 v217
  let c0_i32_142 : BitVec 32 := 0#32
  let v220 : BitVec 1 := Scalar.cmpi .slt v218 c0_i32_142
  let c0_i32_143 : BitVec 32 := 0#32
  let v221 : BitVec 1 := Scalar.cmpi .slt v217 c0_i32_143
  let v222 : BitVec 1 := Scalar.xori v220 v221
  let c0_i32_141 : BitVec 32 := 0#32
  let v219 : BitVec 1 := Scalar.cmpi .ne v218 c0_i32_141
  let v223 : BitVec 1 := Scalar.andi v222 v219
  let v224 : BitVec 32 := Scalar.addi v218 v217
  let v225 : BitVec 32 := Scalar.select v223 v224 v218
  let c0_i32_148 : BitVec 32 := 0#32
  let c0_i32_149 : BitVec 32 := 0#32
  ![v225.toNat, 0, 0]
def k0_off9 (d0 : Dev nD) (c0_i32_153 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_152 : BitVec 32 := 1#32
  let v234 : BitVec 32 := Scalar.addi v5 c1_i32_152
  let v235 : BitVec 32 := Scalar.addi v234 c0_i32_153
  let c8_i32_154 : BitVec 32 := 8#32
  let c0_i32_155 : BitVec 32 := 0#32
  let v236 : BitVec 1 := Scalar.cmpi .eq c8_i32_154 c0_i32_155
  let c1_i32_156 : BitVec 32 := 1#32
  let v237 : BitVec 32 := Scalar.select v236 c1_i32_156 c8_i32_154
  let v238 : BitVec 32 := Scalar.remsi v235 v237
  let c0_i32_158 : BitVec 32 := 0#32
  let v240 : BitVec 1 := Scalar.cmpi .slt v238 c0_i32_158
  let c0_i32_159 : BitVec 32 := 0#32
  let v241 : BitVec 1 := Scalar.cmpi .slt v237 c0_i32_159
  let v242 : BitVec 1 := Scalar.xori v240 v241
  let c0_i32_157 : BitVec 32 := 0#32
  let v239 : BitVec 1 := Scalar.cmpi .ne v238 c0_i32_157
  let v243 : BitVec 1 := Scalar.andi v242 v239
  let v244 : BitVec 32 := Scalar.addi v238 v237
  let v245 : BitVec 32 := Scalar.select v243 v244 v238
  let c0_i32_164 : BitVec 32 := 0#32
  let c0_i32_165 : BitVec 32 := 0#32
  ![v245.toNat, 0, 0]
def k0_off10 (d0 : Dev nD) (c0_i32_169 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_168 : BitVec 32 := 1#32
  let v254 : BitVec 32 := Scalar.addi v5 c1_i32_168
  let v255 : BitVec 32 := Scalar.addi v254 c0_i32_169
  let c8_i32_170 : BitVec 32 := 8#32
  let c0_i32_171 : BitVec 32 := 0#32
  let v256 : BitVec 1 := Scalar.cmpi .eq c8_i32_170 c0_i32_171
  let c1_i32_172 : BitVec 32 := 1#32
  let v257 : BitVec 32 := Scalar.select v256 c1_i32_172 c8_i32_170
  let v258 : BitVec 32 := Scalar.remsi v255 v257
  let c0_i32_174 : BitVec 32 := 0#32
  let v260 : BitVec 1 := Scalar.cmpi .slt v258 c0_i32_174
  let c0_i32_175 : BitVec 32 := 0#32
  let v261 : BitVec 1 := Scalar.cmpi .slt v257 c0_i32_175
  let v262 : BitVec 1 := Scalar.xori v260 v261
  let c0_i32_173 : BitVec 32 := 0#32
  let v259 : BitVec 1 := Scalar.cmpi .ne v258 c0_i32_173
  let v263 : BitVec 1 := Scalar.andi v262 v259
  let v264 : BitVec 32 := Scalar.addi v258 v257
  let v265 : BitVec 32 := Scalar.select v263 v264 v258
  let c0_i32_180 : BitVec 32 := 0#32
  let c0_i32_181 : BitVec 32 := 0#32
  ![v265.toNat, 0, 0]
def k0_off11 (d0 : Dev nD) (c0_i32_185 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_184 : BitVec 32 := 1#32
  let v274 : BitVec 32 := Scalar.subi v5 c1_i32_184
  let v275 : BitVec 32 := Scalar.subi v274 c0_i32_185
  let c8_i32_186 : BitVec 32 := 8#32
  let c0_i32_187 : BitVec 32 := 0#32
  let v276 : BitVec 1 := Scalar.cmpi .eq c8_i32_186 c0_i32_187
  let c1_i32_188 : BitVec 32 := 1#32
  let v277 : BitVec 32 := Scalar.select v276 c1_i32_188 c8_i32_186
  let v278 : BitVec 32 := Scalar.remsi v275 v277
  let c0_i32_190 : BitVec 32 := 0#32
  let v280 : BitVec 1 := Scalar.cmpi .slt v278 c0_i32_190
  let c0_i32_191 : BitVec 32 := 0#32
  let v281 : BitVec 1 := Scalar.cmpi .slt v277 c0_i32_191
  let v282 : BitVec 1 := Scalar.xori v280 v281
  let c0_i32_189 : BitVec 32 := 0#32
  let v279 : BitVec 1 := Scalar.cmpi .ne v278 c0_i32_189
  let v283 : BitVec 1 := Scalar.andi v282 v279
  let v284 : BitVec 32 := Scalar.addi v278 v277
  let v285 : BitVec 32 := Scalar.select v283 v284 v278
  let v286 : Index := Scalar.indexCast v285
  let c0_192 : Index := 0#32
  let c0_193 : Index := 0#32
  ![v286.toNat, 0, 0]
def k0_off12 (d0 : Dev nD) (c0_i32_185 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_184 : BitVec 32 := 1#32
  let v274 : BitVec 32 := Scalar.subi v5 c1_i32_184
  let v275 : BitVec 32 := Scalar.subi v274 c0_i32_185
  let c8_i32_186 : BitVec 32 := 8#32
  let c0_i32_187 : BitVec 32 := 0#32
  let v276 : BitVec 1 := Scalar.cmpi .eq c8_i32_186 c0_i32_187
  let c1_i32_188 : BitVec 32 := 1#32
  let v277 : BitVec 32 := Scalar.select v276 c1_i32_188 c8_i32_186
  let v278 : BitVec 32 := Scalar.remsi v275 v277
  let c0_i32_190 : BitVec 32 := 0#32
  let v280 : BitVec 1 := Scalar.cmpi .slt v278 c0_i32_190
  let c0_i32_191 : BitVec 32 := 0#32
  let v281 : BitVec 1 := Scalar.cmpi .slt v277 c0_i32_191
  let v282 : BitVec 1 := Scalar.xori v280 v281
  let c0_i32_189 : BitVec 32 := 0#32
  let v279 : BitVec 1 := Scalar.cmpi .ne v278 c0_i32_189
  let v283 : BitVec 1 := Scalar.andi v282 v279
  let v284 : BitVec 32 := Scalar.addi v278 v277
  let v285 : BitVec 32 := Scalar.select v283 v284 v278
  let v289 : Index := Scalar.indexCast v285
  let c0_194 : Index := 0#32
  let c0_195 : Index := 0#32
  ![v289.toNat, 0, 0]
def k0_dev7 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_231 : BitVec 32 := 1#32
  let v362 : BitVec 32 := Scalar.muli v31 c1_i32_231
  let v363 : BitVec 32 := Scalar.addi c0_i32_232 v362
  v363.toNat
def k0_off13 (d0 : Dev nD) (c0_i32_238 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_237 : BitVec 32 := 1#32
  let v372 : BitVec 32 := Scalar.addi v5 c1_i32_237
  let v373 : BitVec 32 := Scalar.addi v372 c0_i32_238
  let c8_i32_239 : BitVec 32 := 8#32
  let c0_i32_240 : BitVec 32 := 0#32
  let v374 : BitVec 1 := Scalar.cmpi .eq c8_i32_239 c0_i32_240
  let c1_i32_241 : BitVec 32 := 1#32
  let v375 : BitVec 32 := Scalar.select v374 c1_i32_241 c8_i32_239
  let v376 : BitVec 32 := Scalar.remsi v373 v375
  let c0_i32_243 : BitVec 32 := 0#32
  let v378 : BitVec 1 := Scalar.cmpi .slt v376 c0_i32_243
  let c0_i32_244 : BitVec 32 := 0#32
  let v379 : BitVec 1 := Scalar.cmpi .slt v375 c0_i32_244
  let v380 : BitVec 1 := Scalar.xori v378 v379
  let c0_i32_242 : BitVec 32 := 0#32
  let v377 : BitVec 1 := Scalar.cmpi .ne v376 c0_i32_242
  let v381 : BitVec 1 := Scalar.andi v380 v377
  let v382 : BitVec 32 := Scalar.addi v376 v375
  let v383 : BitVec 32 := Scalar.select v381 v382 v376
  let v384 : Index := Scalar.indexCast v383
  let c0_245 : Index := 0#32
  let c0_246 : Index := 0#32
  ![v384.toNat, 0, 0]
def k0_off14 (d0 : Dev nD) (c0_i32_238 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_237 : BitVec 32 := 1#32
  let v372 : BitVec 32 := Scalar.addi v5 c1_i32_237
  let v373 : BitVec 32 := Scalar.addi v372 c0_i32_238
  let c8_i32_239 : BitVec 32 := 8#32
  let c0_i32_240 : BitVec 32 := 0#32
  let v374 : BitVec 1 := Scalar.cmpi .eq c8_i32_239 c0_i32_240
  let c1_i32_241 : BitVec 32 := 1#32
  let v375 : BitVec 32 := Scalar.select v374 c1_i32_241 c8_i32_239
  let v376 : BitVec 32 := Scalar.remsi v373 v375
  let c0_i32_243 : BitVec 32 := 0#32
  let v378 : BitVec 1 := Scalar.cmpi .slt v376 c0_i32_243
  let c0_i32_244 : BitVec 32 := 0#32
  let v379 : BitVec 1 := Scalar.cmpi .slt v375 c0_i32_244
  let v380 : BitVec 1 := Scalar.xori v378 v379
  let c0_i32_242 : BitVec 32 := 0#32
  let v377 : BitVec 1 := Scalar.cmpi .ne v376 c0_i32_242
  let v381 : BitVec 1 := Scalar.andi v380 v377
  let v382 : BitVec 32 := Scalar.addi v376 v375
  let v383 : BitVec 32 := Scalar.select v381 v382 v376
  let v387 : Index := Scalar.indexCast v383
  let c0_247 : Index := 0#32
  let c0_248 : Index := 0#32
  ![v387.toNat, 0, 0]
def k0_dev8 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_285 : BitVec 32 := 1#32
  let v460 : BitVec 32 := Scalar.muli v34 c1_i32_285
  let v461 : BitVec 32 := Scalar.addi c0_i32_286 v460
  v461.toNat
def k0_dev9 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_300 : BitVec 32 := 1#32
  let v481 : BitVec 32 := Scalar.muli v31 c1_i32_300
  let v482 : BitVec 32 := Scalar.addi c0_i32_301 v481
  v482.toNat
def k0_dev10 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_315 : BitVec 32 := 1#32
  let v502 : BitVec 32 := Scalar.muli v31 c1_i32_315
  let v503 : BitVec 32 := Scalar.addi c0_i32_316 v502
  v503.toNat
def k0_dev11 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_330 : BitVec 32 := 1#32
  let v523 : BitVec 32 := Scalar.muli v34 c1_i32_330
  let v524 : BitVec 32 := Scalar.addi c0_i32_331 v523
  v524.toNat
def k0_dev12 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_345 : BitVec 32 := 1#32
  let v544 : BitVec 32 := Scalar.muli v34 c1_i32_345
  let v545 : BitVec 32 := Scalar.addi c0_i32_346 v544
  v545.toNat
def k0_off15 (d0 : Dev nD) (c1_i32_351 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v554 : BitVec 32 := Scalar.subi v5 c1_i32_351
  let c1_i32_352 : BitVec 32 := 1#32
  let v555 : BitVec 32 := Scalar.addi v554 c1_i32_352
  let c8_i32_353 : BitVec 32 := 8#32
  let c0_i32_354 : BitVec 32 := 0#32
  let v556 : BitVec 1 := Scalar.cmpi .eq c8_i32_353 c0_i32_354
  let c1_i32_355 : BitVec 32 := 1#32
  let v557 : BitVec 32 := Scalar.select v556 c1_i32_355 c8_i32_353
  let v558 : BitVec 32 := Scalar.remsi v555 v557
  let c0_i32_357 : BitVec 32 := 0#32
  let v560 : BitVec 1 := Scalar.cmpi .slt v558 c0_i32_357
  let c0_i32_358 : BitVec 32 := 0#32
  let v561 : BitVec 1 := Scalar.cmpi .slt v557 c0_i32_358
  let v562 : BitVec 1 := Scalar.xori v560 v561
  let c0_i32_356 : BitVec 32 := 0#32
  let v559 : BitVec 1 := Scalar.cmpi .ne v558 c0_i32_356
  let v563 : BitVec 1 := Scalar.andi v562 v559
  let v564 : BitVec 32 := Scalar.addi v558 v557
  let v565 : BitVec 32 := Scalar.select v563 v564 v558
  let c0_i32_362 : BitVec 32 := 0#32
  let c0_i32_363 : BitVec 32 := 0#32
  ![v565.toNat, 0, 0]
def k0_off16 (d0 : Dev nD) (c1_i32_366 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v572 : BitVec 32 := Scalar.subi v5 c1_i32_366
  let c1_i32_367 : BitVec 32 := 1#32
  let v573 : BitVec 32 := Scalar.addi v572 c1_i32_367
  let c8_i32_368 : BitVec 32 := 8#32
  let c0_i32_369 : BitVec 32 := 0#32
  let v574 : BitVec 1 := Scalar.cmpi .eq c8_i32_368 c0_i32_369
  let c1_i32_370 : BitVec 32 := 1#32
  let v575 : BitVec 32 := Scalar.select v574 c1_i32_370 c8_i32_368
  let v576 : BitVec 32 := Scalar.remsi v573 v575
  let c0_i32_372 : BitVec 32 := 0#32
  let v578 : BitVec 1 := Scalar.cmpi .slt v576 c0_i32_372
  let c0_i32_373 : BitVec 32 := 0#32
  let v579 : BitVec 1 := Scalar.cmpi .slt v575 c0_i32_373
  let v580 : BitVec 1 := Scalar.xori v578 v579
  let c0_i32_371 : BitVec 32 := 0#32
  let v577 : BitVec 1 := Scalar.cmpi .ne v576 c0_i32_371
  let v581 : BitVec 1 := Scalar.andi v580 v577
  let v582 : BitVec 32 := Scalar.addi v576 v575
  let v583 : BitVec 32 := Scalar.select v581 v582 v576
  let c0_i32_377 : BitVec 32 := 0#32
  let c0_i32_378 : BitVec 32 := 0#32
  ![v583.toNat, 0, 0]
def k0_off17 (d0 : Dev nD) (c1_i32_381 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v590 : BitVec 32 := Scalar.addi v5 c1_i32_381
  let c1_i32_382 : BitVec 32 := 1#32
  let v591 : BitVec 32 := Scalar.subi v590 c1_i32_382
  let c8_i32_383 : BitVec 32 := 8#32
  let c0_i32_384 : BitVec 32 := 0#32
  let v592 : BitVec 1 := Scalar.cmpi .eq c8_i32_383 c0_i32_384
  let c1_i32_385 : BitVec 32 := 1#32
  let v593 : BitVec 32 := Scalar.select v592 c1_i32_385 c8_i32_383
  let v594 : BitVec 32 := Scalar.remsi v591 v593
  let c0_i32_387 : BitVec 32 := 0#32
  let v596 : BitVec 1 := Scalar.cmpi .slt v594 c0_i32_387
  let c0_i32_388 : BitVec 32 := 0#32
  let v597 : BitVec 1 := Scalar.cmpi .slt v593 c0_i32_388
  let v598 : BitVec 1 := Scalar.xori v596 v597
  let c0_i32_386 : BitVec 32 := 0#32
  let v595 : BitVec 1 := Scalar.cmpi .ne v594 c0_i32_386
  let v599 : BitVec 1 := Scalar.andi v598 v595
  let v600 : BitVec 32 := Scalar.addi v594 v593
  let v601 : BitVec 32 := Scalar.select v599 v600 v594
  let c0_i32_392 : BitVec 32 := 0#32
  let c0_i32_393 : BitVec 32 := 0#32
  ![v601.toNat, 0, 0]
def k0_off18 (d0 : Dev nD) (c1_i32_396 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v608 : BitVec 32 := Scalar.addi v5 c1_i32_396
  let c1_i32_397 : BitVec 32 := 1#32
  let v609 : BitVec 32 := Scalar.subi v608 c1_i32_397
  let c8_i32_398 : BitVec 32 := 8#32
  let c0_i32_399 : BitVec 32 := 0#32
  let v610 : BitVec 1 := Scalar.cmpi .eq c8_i32_398 c0_i32_399
  let c1_i32_400 : BitVec 32 := 1#32
  let v611 : BitVec 32 := Scalar.select v610 c1_i32_400 c8_i32_398
  let v612 : BitVec 32 := Scalar.remsi v609 v611
  let c0_i32_402 : BitVec 32 := 0#32
  let v614 : BitVec 1 := Scalar.cmpi .slt v612 c0_i32_402
  let c0_i32_403 : BitVec 32 := 0#32
  let v615 : BitVec 1 := Scalar.cmpi .slt v611 c0_i32_403
  let v616 : BitVec 1 := Scalar.xori v614 v615
  let c0_i32_401 : BitVec 32 := 0#32
  let v613 : BitVec 1 := Scalar.cmpi .ne v612 c0_i32_401
  let v617 : BitVec 1 := Scalar.andi v616 v613
  let v618 : BitVec 32 := Scalar.addi v612 v611
  let v619 : BitVec 32 := Scalar.select v617 v618 v612
  let c0_i32_407 : BitVec 32 := 0#32
  let c0_i32_408 : BitVec 32 := 0#32
  ![v619.toNat, 0, 0]
def k0_dev13 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_536 : BitVec 32 := 1#32
  let v806 : BitVec 32 := Scalar.muli v31 c1_i32_536
  let v807 : BitVec 32 := Scalar.addi c0_i32_537 v806
  v807.toNat
def k0_dev14 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_603 : BitVec 32 := 1#32
  let v916 : BitVec 32 := Scalar.muli v34 c1_i32_603
  let v917 : BitVec 32 := Scalar.addi c0_i32_604 v916
  v917.toNat
def k0_dev15 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_618 : BitVec 32 := 1#32
  let v937 : BitVec 32 := Scalar.muli v31 c1_i32_618
  let v938 : BitVec 32 := Scalar.addi c0_i32_619 v937
  v938.toNat
def k0_dev16 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_633 : BitVec 32 := 1#32
  let v958 : BitVec 32 := Scalar.muli v31 c1_i32_633
  let v959 : BitVec 32 := Scalar.addi c0_i32_634 v958
  v959.toNat
def k0_dev17 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_648 : BitVec 32 := 1#32
  let v979 : BitVec 32 := Scalar.muli v34 c1_i32_648
  let v980 : BitVec 32 := Scalar.addi c0_i32_649 v979
  v980.toNat
def k0_dev18 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_663 : BitVec 32 := 1#32
  let v1000 : BitVec 32 := Scalar.muli v34 c1_i32_663
  let v1001 : BitVec 32 := Scalar.addi c0_i32_664 v1000
  v1001.toNat
def k0_dev19 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_872 : BitVec 32 := 1#32
  let v1274 : BitVec 32 := Scalar.muli v31 c1_i32_872
  let v1275 : BitVec 32 := Scalar.addi c0_i32_873 v1274
  v1275.toNat
def k0_dev20 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_939 : BitVec 32 := 1#32
  let v1384 : BitVec 32 := Scalar.muli v34 c1_i32_939
  let v1385 : BitVec 32 := Scalar.addi c0_i32_940 v1384
  v1385.toNat
def k0_dev21 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_954 : BitVec 32 := 1#32
  let v1405 : BitVec 32 := Scalar.muli v31 c1_i32_954
  let v1406 : BitVec 32 := Scalar.addi c0_i32_955 v1405
  v1406.toNat
def k0_dev22 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_969 : BitVec 32 := 1#32
  let v1426 : BitVec 32 := Scalar.muli v31 c1_i32_969
  let v1427 : BitVec 32 := Scalar.addi c0_i32_970 v1426
  v1427.toNat
def k0_dev23 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_1146 : BitVec 32 := 1#32
  let v1660 : BitVec 32 := Scalar.muli v31 c1_i32_1146
  let v1661 : BitVec 32 := Scalar.addi c0_i32_1147 v1660
  v1661.toNat
def k0_dev24 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_1213 : BitVec 32 := 1#32
  let v1770 : BitVec 32 := Scalar.muli v34 c1_i32_1213
  let v1771 : BitVec 32 := Scalar.addi c0_i32_1214 v1770
  v1771.toNat
def k0_dev25 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_1328 : BitVec 32 := 1#32
  let v1928 : BitVec 32 := Scalar.muli v31 c1_i32_1328
  let v1929 : BitVec 32 := Scalar.addi c0_i32_1329 v1928
  v1929.toNat
def k0_dev26 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_1395 : BitVec 32 := 1#32
  let v2038 : BitVec 32 := Scalar.muli v34 c1_i32_1395
  let v2039 : BitVec 32 := Scalar.addi c0_i32_1396 v2038
  v2039.toNat
def k0_dev27 (d0 : Dev nD) : Nat :=
  let c0_i32_1479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_1478 : BitVec 32 := 1#32
  let v2160 : BitVec 32 := Scalar.muli v31 c1_i32_1478
  let v2161 : BitVec 32 := Scalar.addi c0_i32_1479 v2160
  v2161.toNat
def k0_dev28 (d0 : Dev nD) : Nat :=
  let c0_i32_1546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_1545 : BitVec 32 := 1#32
  let v2270 : BitVec 32 := Scalar.muli v34 c1_i32_1545
  let v2271 : BitVec 32 := Scalar.addi c0_i32_1546 v2270
  v2271.toNat
def k0_dev29 (d0 : Dev nD) : Nat :=
  let c0_i32_1629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_14 : BitVec 32 := 4#32
  let v29 : BitVec 1 := Scalar.cmpi .slt v16 c4_i32_14
  let c11_i32_15 : BitVec 32 := 11#32
  let v30 : BitVec 32 := Scalar.subi c11_i32_15 v16
  let v31 : BitVec 32 := Scalar.select v29 v16 v30
  let c1_i32_1628 : BitVec 32 := 1#32
  let v2392 : BitVec 32 := Scalar.muli v31 c1_i32_1628
  let v2393 : BitVec 32 := Scalar.addi c0_i32_1629 v2392
  v2393.toNat
def k0_dev30 (d0 : Dev nD) : Nat :=
  let c0_i32_1696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_6 : BitVec 32 := 8#32
  let v17 : BitVec 32 := Scalar.addi v5 c8_i32_6
  let c1_i32_7 : BitVec 32 := 1#32
  let v18 : BitVec 32 := Scalar.subi v17 c1_i32_7
  let c8_i32_8 : BitVec 32 := 8#32
  let c0_i32_9 : BitVec 32 := 0#32
  let v19 : BitVec 1 := Scalar.cmpi .eq c8_i32_8 c0_i32_9
  let c1_i32_10 : BitVec 32 := 1#32
  let v20 : BitVec 32 := Scalar.select v19 c1_i32_10 c8_i32_8
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c4_i32_16 : BitVec 32 := 4#32
  let v32 : BitVec 1 := Scalar.cmpi .slt v28 c4_i32_16
  let c11_i32_17 : BitVec 32 := 11#32
  let v33 : BitVec 32 := Scalar.subi c11_i32_17 v28
  let v34 : BitVec 32 := Scalar.select v32 v28 v33
  let c1_i32_1695 : BitVec 32 := 1#32
  let v2502 : BitVec 32 := Scalar.muli v34 c1_i32_1695
  let v2503 : BitVec 32 := Scalar.addi c0_i32_1696 v2502
  v2503.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x2 : Shape := ⟨2, ![4096, 2]⟩
abbrev S32x256x512 : Shape := ⟨3, ![32, 256, 512]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S4096x256x512 : Shape := ⟨3, ![4096, 256, 512]⟩
abbrev S4096x512 : Shape := ⟨2, ![4096, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x32, .bf16⟩
  | .hbm, ⟨2, _⟩ => ⟨S4096x2, .i32⟩
  | .hbm, ⟨3, _⟩ => ⟨S32x256x512, .bf16⟩
  | .hbm, ⟨4, _⟩ => ⟨S4096x256, .f32⟩
  | .hbm, ⟨5, _⟩ => ⟨S256x32, .f32⟩
  | .hbm, ⟨6, _⟩ => ⟨S4096x32, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x32, .f32⟩
  | .hbm, ⟨17, _⟩ => ⟨S4096x32, .f32⟩
  | .hbm, ⟨18, _⟩ => ⟨S4096x1, .i32⟩
  | .hbm, ⟨19, _⟩ => ⟨S4096, .i32⟩
  | .hbm, ⟨20, _⟩ => ⟨S4096x1, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1, .i32⟩
  | .hbm, ⟨25, _⟩ => ⟨S4096x2, .i32⟩
  | .hbm, ⟨26, _⟩ => ⟨S2, .i32⟩
  | .hbm, ⟨27, _⟩ => ⟨S_, .i32⟩
  | .hbm, ⟨28, _⟩ => ⟨S4096x2, .i32⟩
  | .hbm, ⟨29, _⟩ => ⟨S4096x2, .i1⟩
  | .hbm, ⟨30, _⟩ => ⟨S1x2, .i32⟩
  | .hbm, ⟨31, _⟩ => ⟨S4096x2, .i32⟩
  | .hbm, ⟨32, _⟩ => ⟨S4096x2, .i1⟩
  | .hbm, ⟨33, _⟩ => ⟨S4096x2, .i1⟩
  | .hbm, ⟨34, _⟩ => ⟨S_, .i1⟩
  | .hbm, ⟨35, _⟩ => ⟨S4096, .i1⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1, .i32⟩
  | .hbm, ⟨41, _⟩ => ⟨S4096x1, .i32⟩
  | .hbm, ⟨42, _⟩ => ⟨S4096x2, .i32⟩
  | .hbm, ⟨43, _⟩ => ⟨S2, .i32⟩
  | .hbm, ⟨44, _⟩ => ⟨S_, .i32⟩
  | .hbm, ⟨45, _⟩ => ⟨S4096x2, .i32⟩
  | .hbm, ⟨46, _⟩ => ⟨S4096x2, .i1⟩
  | .hbm, ⟨47, _⟩ => ⟨S1x2, .i32⟩
  | .hbm, ⟨48, _⟩ => ⟨S4096x2, .i32⟩
  | .hbm, ⟨49, _⟩ => ⟨S4096x2, .i1⟩
  | .hbm, ⟨50, _⟩ => ⟨S4096x2, .i1⟩
  | .hbm, ⟨51, _⟩ => ⟨S_, .i1⟩
  | .hbm, ⟨52, _⟩ => ⟨S4096, .i1⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S32x256x512, .f32⟩
  | .hbm, ⟨58, _⟩ => ⟨S4096x1, .i32⟩
  | .hbm, ⟨59, _⟩ => ⟨S1, .i32⟩
  | .hbm, ⟨60, _⟩ => ⟨S_, .i32⟩
  | .hbm, ⟨61, _⟩ => ⟨S4096x1, .i32⟩
  | .hbm, ⟨62, _⟩ => ⟨S4096x1, .i1⟩
  | .hbm, ⟨63, _⟩ => ⟨S1x1, .i32⟩
  | .hbm, ⟨64, _⟩ => ⟨S4096x1, .i32⟩
  | .hbm, ⟨65, _⟩ => ⟨S4096x1, .i1⟩
  | .hbm, ⟨66, _⟩ => ⟨S4096x1, .i1⟩
  | .hbm, ⟨67, _⟩ => ⟨S_, .i1⟩
  | .hbm, ⟨68, _⟩ => ⟨S4096, .i1⟩
  | .hbm, ⟨69, _⟩ => ⟨S4096x256x512, .f32⟩
  | .hbm, ⟨70, _⟩ => ⟨S4096x256x512, .i1⟩
  | .hbm, ⟨71, _⟩ => ⟨S_, .f32⟩
  | .hbm, ⟨72, _⟩ => ⟨S4096x256x512, .f32⟩
  | .hbm, ⟨73, _⟩ => ⟨S4096x256x512, .f32⟩
  | .hbm, ⟨74, _⟩ => ⟨S32x256x512, .f32⟩
  | .hbm, ⟨75, _⟩ => ⟨S4096x1, .i32⟩
  | .hbm, ⟨76, _⟩ => ⟨S1, .i32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S1x1, .i32⟩
  | .hbm, ⟨81, _⟩ => ⟨S4096x1, .i32⟩
  | .hbm, ⟨82, _⟩ => ⟨S4096x1, .i1⟩
  | .hbm, ⟨83, _⟩ => ⟨S4096x1, .i1⟩
  | .hbm, ⟨84, _⟩ => ⟨S_, .i1⟩
  | .hbm, ⟨85, _⟩ => ⟨S4096, .i1⟩
  | .hbm, ⟨86, _⟩ => ⟨S4096x256x512, .f32⟩
  | .hbm, ⟨87, _⟩ => ⟨S4096x256x512, .i1⟩
  | .hbm, ⟨88, _⟩ => ⟨S_, .f32⟩
  | .hbm, ⟨89, _⟩ => ⟨S4096x256x512, .f32⟩
  | .hbm, ⟨90, _⟩ => ⟨S4096x256x512, .f32⟩
  | .hbm, ⟨91, _⟩ => ⟨S4096x512, .f32⟩
  | .hbm, ⟨92, _⟩ => ⟨S4096x512, .f32⟩
  | .hbm, ⟨93, _⟩ => ⟨S4096, .f32⟩
  | .hbm, ⟨94, _⟩ => ⟨S4096, .f32⟩
  | .hbm, ⟨95, _⟩ => ⟨S4096x1, .f32⟩
  | .hbm, ⟨96, _⟩ => ⟨S4096x512, .f32⟩
  | .hbm, ⟨97, _⟩ => ⟨S4096x512, .f32⟩
  | .hbm, ⟨98, _⟩ => ⟨S4096, .f32⟩
  | .hbm, ⟨99, _⟩ => ⟨S4096x1, .f32⟩
  | .hbm, ⟨100, _⟩ => ⟨S4096x512, .f32⟩
  | .hbm, ⟨101, _⟩ => ⟨S4096x512, .f32⟩
  | .hbm, ⟨102, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proof.Partial.lean ====
/-
What one device computes between its transfers, as functions of the values it loads.

A device holds four experts. From a block of 512 tokens `x` and that block's gating weights `w` (one column per
expert) it forms, for one half of the 512 result columns, the weighted sum of its four experts' products. That sum
is stored for the next hop of the reduction, alone on the first hop and added to what arrived on the later hops, or
written to the result at the end. The kernel's text spells this out once per hop and direction, cut differently each
time; the theorems below say that every copy is the same function.
-/
module

public import proofs.«01_k».proof.Proof.Gen.KernelIdeal.Skeleton

@[expose] public section

noncomputable section

namespace Cert.KernelIdeal.Moe

open Idealize.ShloMosaic Cert.KernelIdeal Cert.KernelIdeal.Gen

variable {F : FTy → Type} [FloatOps F]

/-- The device's number as the kernel's arithmetic computes it. -/
abbrev devWord (d : Dev nD) : BitVec 32 := Scalar.remsi (Scalar.divsi d.word 1#32) 8#32

/-- The column number of each entry of a block's gating weights. -/
abbrev lanes : IVec S512x32 32 := iota .tc S512x32 32 [1] iota_S512x32_d1_w32

/-- A loaded block of tokens, without its leading unit axis. -/
def tokens (x : Vec F S1x512x256 .bf16) : FVec F S512x256 .bf16 := shapeCast S512x256 x shapeCasts_S1x512x256_S512x256

/-- A loaded block of gating weights, widened. -/
def gates (w : Vec F S1x512x32 .bf16) : FVec F S512x32 .f32 :=
  extf .f32 (shapeCast S512x32 w shapeCasts_S1x512x32_S512x32) bitsLt_bf16_f32

/-- The gating weight of each token for the device's expert `e`: the sum over the columns, all but one masked out. -/
def gate (n e : BitVec 32) (g : FVec F S512x32 .f32) : FVec F S512x1 .f32 :=
  shapeCast S512x1
    (multiReduction .add [1] S512
      (mulf g (sitofp .f32 (extui 32 (cmpi .eq lanes (broadcast S512x32 (Scalar.addi (Scalar.muli 4#32 n) e))) natLt_1_32)))
      0x00000000#32 reduces_S512x32_S512 (.inl rfl) rfl)
    shapeCasts_S512_S512x1

/-- The left half of an expert's columns. -/
def slabR (w : Vec F S1x256x512 .bf16) : FVec F S256x256 .bf16 :=
  extractStridedSlice S256x256 ![0, 0] (shapeCast S256x512 w shapeCasts_S1x256x512_S256x512) slices_S256x512_o0_0_S256x256

/-- The right half of an expert's columns. -/
def slabL (w : Vec F S1x256x512 .bf16) : FVec F S256x256 .bf16 :=
  extractStridedSlice S256x256 ![0, 256] (shapeCast S256x512 w shapeCasts_S1x256x512_S256x512) slices_S256x512_o0_256_S256x256

/-- One expert's weighted product. -/
def term (t : FVec F S512x256 .bf16) (s : FVec F S256x256 .bf16) (g : FVec F S512x1 .f32) : FVec F S512x256 .f32 :=
  mulf (matmul dot_S512x256_S256x256_S512x256_1_0_0_1_n_n none t s (constant S512x256 .f32 0x00000000#32))
    (broadcastTo S512x256 g broadcasts_S512x1_S512x256)

/-- The four experts' weighted products summed, over half-slabs `s0 … s3`. -/
def partialSum (n : BitVec 32) (x : Vec F S1x512x256 .bf16) (w : Vec F S1x512x32 .bf16)
    (s0 s1 s2 s3 : FVec F S256x256 .bf16) : FVec F S512x256 .f32 :=
  addf (addf (addf (addf (broadcast S512x256 (Scalar.ofBits .f32 0x00000000#32))
    (term (tokens x) s0 (gate n 0#32 (gates w)))) (term (tokens x) s1 (gate n 1#32 (gates w))))
    (term (tokens x) s2 (gate n 2#32 (gates w)))) (term (tokens x) s3 (gate n 3#32 (gates w)))

/-- What a device sends on the first hop of a reduction. -/
def firstHop (p : FVec F S512x256 .f32) : FVec F S1x512x256 .bf16 :=
  shapeCast S1x512x256 (truncf .bf16 p bitsLt_bf16_f32) shapeCasts_S512x256_S1x512x256

/-- A sum and what arrived, added. -/
def withArrived (p : FVec F S512x256 .f32) (r : Vec F S1x512x256 .bf16) : FVec F S512x256 .f32 :=
  addf p (extf .f32 (shapeCast S512x256 r shapeCasts_S1x512x256_S512x256) bitsLt_bf16_f32)

section Same

variable (d : Dev nD) (x : Vec F S1x512x256 .bf16) (w : Vec F S1x512x32 .bf16) (e0 e1 e2 e3 : Vec F S1x256x512 .bf16)
  (r : Vec F S1x512x256 .bf16)

/-- The right-going sum of device `d` over a block. -/
abbrev sumR : FVec F S512x256 .f32 := partialSum (devWord d) x w (slabR e0) (slabR e1) (slabR e2) (slabR e3)
/-- The left-going sum of device `d` over a block. -/
abbrev sumL : FVec F S512x256 .f32 := partialSum (devWord d) x w (slabL e0) (slabL e1) (slabL e2) (slabL e3)

theorem hopR0_eq :
    k0_pay20 (k0_pay13 x) (k0_pay18 (devWord d) lanes (k0_pay13 x) (k0_pay14 w) k0_pay15 (k0_pay16 (devWord d) lanes w) (k0_pay17 e0) (constant S512x256 .f32 0#32) e1 e2) (k0_pay19 (devWord d) lanes (k0_pay14 w)) e3
      = firstHop (sumR d x w e0 e1 e2 e3) := rfl

theorem hopL0_eq :
    k0_pay25 (devWord d) lanes (k0_pay21 x) (k0_pay22 w) (k0_pay23 (devWord d) lanes x w e0) (k0_pay24 (devWord d) lanes x w e1) e2 e3
      = firstHop (sumL d x w e0 e1 e2 e3) := rfl

theorem hopR1_eq :
    k0_pay31 (k0_pay30 (devWord d) lanes (k0_pay26 x) (k0_pay27 w) (k0_pay28 (devWord d) lanes (k0_pay26 x) (k0_pay27 w) (FloatOps.ofBits .f32 0#32) e0 e1) (k0_pay29 (devWord d) lanes (k0_pay27 w)) e2 e3 r)
      = firstHop (withArrived (sumR d x w e0 e1 e2 e3) r) := rfl

theorem hopL1_eq :
    k0_pay37 (k0_pay36 (devWord d) lanes (k0_pay32 x) (k0_pay33 w) (k0_pay34 (devWord d) lanes (k0_pay32 x) (k0_pay33 w) (FloatOps.ofBits .f32 0#32) e0 e1) (k0_pay35 (devWord d) lanes (k0_pay33 w)) e2 e3 r)
      = firstHop (withArrived (sumL d x w e0 e1 e2 e3) r) := rfl

theorem hopR2_eq :
    k0_pay44 (k0_pay38 x) (k0_pay39 w) (k0_pay42 (devWord d) lanes (k0_pay38 x) (k0_pay39 w) k0_pay40 (k0_pay41 (devWord d) lanes w) e0 e1 e2) (k0_pay43 (devWord d) lanes) e3 r
      = firstHop (withArrived (sumR d x w e0 e1 e2 e3) r) := rfl

theorem hopL2_eq :
    k0_pay51 (k0_pay45 x) (k0_pay46 w) (k0_pay49 (devWord d) lanes (k0_pay45 x) (k0_pay46 w) k0_pay47 (k0_pay48 (devWord d) lanes w) e0 e1 e2) (k0_pay50 (devWord d) lanes) e3 r
      = firstHop (withArrived (sumL d x w e0 e1 e2 e3) r) := rfl

theorem hopR3_eq :
    k0_pay57 (k0_pay56 (devWord d) lanes (k0_pay52 x) (k0_pay53 w) (k0_pay54 (devWord d) lanes (k0_pay52 x) (k0_pay53 w) (FloatOps.ofBits .f32 0#32) e0 e1) (k0_pay55 (devWord d) lanes (k0_pay53 w)) e2 e3 r)
      = firstHop (withArrived (sumR d x w e0 e1 e2 e3) r) := rfl

theorem hopL3_eq :
    k0_pay63 (k0_pay62 (devWord d) lanes (k0_pay58 x) (k0_pay59 w) (k0_pay60 (devWord d) lanes (k0_pay58 x) (k0_pay59 w) (FloatOps.ofBits .f32 0#32) e0 e1) (k0_pay61 (devWord d) lanes (k0_pay59 w)) e2 e3 r)
      = firstHop (withArrived (sumL d x w e0 e1 e2 e3) r) := rfl

theorem hopR4_eq :
    k0_pay71 (k0_pay64 x) (k0_pay69 (devWord d) lanes (k0_pay64 x) (k0_pay65 w) k0_pay66 (k0_pay67 (devWord d) lanes w) (k0_pay68 e0) (constant S512x256 .f32 0#32) e1 e2) (k0_pay70 (devWord d) lanes (k0_pay65 w)) e3 r
      = firstHop (withArrived (sumR d x w e0 e1 e2 e3) r) := rfl

theorem hopL4_eq :
    k0_pay79 (k0_pay72 x) (k0_pay77 (devWord d) lanes (k0_pay72 x) (k0_pay73 w) k0_pay74 (k0_pay75 (devWord d) lanes w) (k0_pay76 e0) (constant S512x256 .f32 0#32) e1 e2) (k0_pay78 (devWord d) lanes (k0_pay73 w)) e3 r
      = firstHop (withArrived (sumL d x w e0 e1 e2 e3) r) := rfl

theorem hopR5_eq :
    k0_pay84 (k0_pay83 (devWord d) lanes (k0_pay80 x) (k0_pay81 w) (k0_pay82 (devWord d) lanes x w e0 e1) (4#32) e2 e3) r
      = firstHop (withArrived (sumR d x w e0 e1 e2 e3) r) := rfl

theorem hopL5_eq :
    k0_pay89 (k0_pay88 (devWord d) lanes (k0_pay85 x) (k0_pay86 w) (k0_pay87 (devWord d) lanes x w e0 e1) (4#32) e2 e3) r
      = firstHop (withArrived (sumL d x w e0 e1 e2 e3) r) := rfl

theorem hopR6_eq :
    k0_pay96 (k0_pay90 x) (k0_pay91 w) (k0_pay94 (devWord d) lanes (k0_pay90 x) (k0_pay91 w) k0_pay92 (k0_pay93 (devWord d) lanes w) e0 e1 e2) (k0_pay95 (devWord d) lanes) e3 r
      = firstHop (withArrived (sumR d x w e0 e1 e2 e3) r) := rfl

theorem hopL6_eq :
    k0_pay103 (k0_pay97 x) (k0_pay98 w) (k0_pay101 (devWord d) lanes (k0_pay97 x) (k0_pay98 w) k0_pay99 (k0_pay100 (devWord d) lanes w) e0 e1 e2) (k0_pay102 (devWord d) lanes) e3 r
      = firstHop (withArrived (sumL d x w e0 e1 e2 e3) r) := rfl

theorem outR_eq :
    k0_pay109 (k0_pay108 (devWord d) lanes (k0_pay104 x) (k0_pay105 w) (k0_pay106 (devWord d) lanes x w e0) (k0_pay107 (devWord d) lanes w) e1 e2 e3) r
      = withArrived (sumR d x w e0 e1 e2 e3) r := rfl

theorem outL_eq :
    k0_pay117 (k0_pay110 x) (k0_pay115 (devWord d) lanes (k0_pay110 x) (k0_pay111 w) k0_pay112 (k0_pay113 (devWord d) lanes w) (k0_pay114 x e0) e1 e2) (k0_pay116 (devWord d) lanes (k0_pay111 w)) e3 r
      = withArrived (sumL d x w e0 e1 e2 e3) r := rfl

end Same

end Cert.KernelIdeal.Moe

end
-- ==== Proof.Slots.lean ====
/-
Buffers made of equal slots along their leading axis: what a slot's rectangle covers, and what reading or writing
one slot does to contents given slot by slot.
-/
module

public import proofs.«01_k».proof.Proof.Partial
public import Idealize.ShloMosaic.Lib.Ring

@[expose] public section

noncomputable section

namespace Cert.KernelIdeal.Moe

open Idealize.ShloMosaic Cert.KernelIdeal Cert.KernelIdeal.Gen

variable {F : FTy → Type} [FloatOps F]

section Stack

variable {n a b : ℕ} {e : EltTy}

/-- Slot `j` of a buffer of `n` slots lies inside it. -/
theorem slot_inb (j : Fin n) : ∀ x, (![j.val, 0, 0] : Fin 3 → ℕ) x + (![1, a, b] : Fin 3 → ℕ) x ≤ (![n, a, b] : Fin 3 → ℕ) x := by
  intro x
  have := j.isLt
  fin_cases x <;> simp <;> omega

/-- Slot `j` of a buffer of `n` slots of `a × b`. -/
abbrev slotRect (n a b : ℕ) (j : Fin n) : Rect ⟨3, ![n, a, b]⟩ :=
  Rect.unit (s := ⟨3, ![n, a, b]⟩) ![j.val, 0, 0] ![1, a, b] (slot_inb j)

/-- The elements of slot `j`. -/
def slot (n a b : ℕ) (j : Fin n) : Finset (⟨3, ![n, a, b]⟩ : Shape).Idx := (slotRect n a b j).set

/-- The place in a slot of an element of the whole buffer. -/
def inSlot (i : (⟨3, ![n, a, b]⟩ : Shape).Idx) : (⟨3, ![1, a, b]⟩ : Shape).Idx
  | ⟨0, _⟩ => ⟨0, Nat.one_pos⟩
  | ⟨1, _⟩ => i 1
  | ⟨2, _⟩ => i 2

/-- Contents given slot by slot. -/
def stack (g : Fin n → Vec F ⟨3, ![1, a, b]⟩ e) : Vec F ⟨3, ![n, a, b]⟩ e := fun i => g (i 0) (inSlot i)

omit [FloatOps F] in
theorem stack_emb (g : Fin n → Vec F ⟨3, ![1, a, b]⟩ e) (j : Fin n) (x : (⟨3, ![1, a, b]⟩ : Shape).Idx) :
    stack g ((slotRect n a b j).emb x) = g j x := by
  have h0 : (slotRect n a b j).emb x 0 = j := Fin.ext (by
    show j.val + 1 * (x 0).val = j.val
    have : (x 0).val < 1 := (x 0).isLt
    omega)
  have h1 : inSlot ((slotRect n a b j).emb x) = x := by
    funext k
    fin_cases k
    · exact Fin.ext (by show 0 = (x 0).val; have : (x 0).val < 1 := (x 0).isLt; omega)
    · exact Fin.ext (by show 0 + 1 * (x 1).val = (x 1).val; omega)
    · exact Fin.ext (by show 0 + 1 * (x 2).val = (x 2).val; omega)
  unfold stack
  rw [h0, h1]

theorem slot_disjoint (j j' : Fin n) (h : j ≠ j') : Disjoint (slot n a b j) (slot n a b j') :=
  Ring.lead_disjoint (s := ⟨3, ![n, a, b]⟩) 0 1 (fun j : Fin n => ![j.val, 0, 0]) ![1, a, b] (fun j => slot_inb j)
    (fun j => (Nat.one_mul _).symm) rfl j j' h

theorem slot_cover : Finset.univ.biUnion (fun j => slot n a b j) = Finset.univ :=
  Ring.lead_cover (s := ⟨3, ![n, a, b]⟩) 0 1 (fun j : Fin n => ![j.val, 0, 0]) ![1, a, b] (fun j => slot_inb j)
    (fun j => (Nat.one_mul _).symm)
    (fun j x hx => by fin_cases x <;> first | exact absurd rfl hx | rfl) rfl
    (fun x hx => by fin_cases x <;> first | exact absurd rfl hx | rfl) (Nat.mul_one n)

end Stack

end Cert.KernelIdeal.Moe

end
-- ==== Proof.Mesh.lean ====
/-
The ring of devices. Positions run 0 … 7 around the ring; device `d` sits at position `d` for `d < 4` and at `11 - d`
otherwise, so that the two halves of the mesh are joined end to end. The device after a device on the ring is `nxt`, the
one before it `prv`.
-/
module

public import proofs.«01_k».proof.Proof.Slots

@[expose] public section

noncomputable section

namespace Cert.KernelIdeal.Moe

open Idealize.ShloMosaic Cert.KernelIdeal Cert.KernelIdeal.Gen

set_option backward.proofsInPublic true in
/-- The position of a device on the ring. -/
def pos (c : Dev nD) : Fin 8 := ⟨if c.val < 4 then c.val else 11 - c.val, by have : c.val < 8 := c.isLt; split <;> omega⟩
set_option backward.proofsInPublic true in
/-- The device at a position. -/
def devAt (p : Fin 8) : Dev nD := ⟨if p.val < 4 then p.val else 11 - p.val, by have := p.isLt; show _ < 8; split <;> omega⟩
/-- The device after a device on the ring. -/
def nxt (c : Dev nD) : Dev nD := devAt (pos c + 1)
/-- The device before a device on the ring. -/
def prv (c : Dev nD) : Dev nD := devAt (pos c + 7)
/-- The position `k` places after a device's own. -/
def rel (c : Dev nD) (k : Fin 8) : Fin 8 := pos c + k

theorem devAt_pos (c : Dev nD) : devAt (pos c) = c := by revert c; decide
theorem pos_devAt (p : Fin 8) : pos (devAt p) = p := by revert p; decide
theorem prv_nxt (c : Dev nD) : prv (nxt c) = c := by revert c; decide
theorem nxt_prv (c : Dev nD) : nxt (prv c) = c := by revert c; decide
theorem devAt_rel_zero (c : Dev nD) : devAt (rel c 0) = c := by revert c; decide

/-- Once around the ring, as a permutation of the devices. -/
def ring : Dev nD ≃ Dev nD := ⟨nxt, prv, prv_nxt, nxt_prv⟩

/-- The slots a device holds, numbered from its own. -/
def relEquiv (c : Dev nD) : Fin 8 ≃ Fin 8 :=
  ⟨rel c, fun j => j - pos c, by revert c; decide, by revert c; decide⟩

/-- Where the block that arrives from the device before at hop `s` goes: `s + 1` places back. -/
def kR (s : Fin 7) : Fin 8 := ⟨7 - s.val, by omega⟩
/-- Where the block that arrives from the device after at hop `s` goes: `s + 1` places on. -/
def kL (s : Fin 7) : Fin 8 := ⟨s.val + 1, by omega⟩
/-- Which block goes to the device after at hop `s`: the one `s` places back. -/
def fR (s : Fin 4) : Fin 8 := ⟨(8 - s.val) % 8, by omega⟩
/-- Which block goes to the device before at hop `s`: the one `s` places on. -/
def fL (s : Fin 3) : Fin 8 := ⟨s.val, by omega⟩

theorem rel_nxt (c : Dev nD) (s : Fin 4) : rel (nxt c) (kR (s.castLE (by decide))) = rel c (fR s) := by
  revert c s; decide
theorem rel_prv (c : Dev nD) (s : Fin 3) : rel (prv c) (kL (s.castLE (by decide))) = rel c (fL s) := by
  revert c s; decide

/-! ## The program's device numbers -/

section Devices

set_option maxRecDepth 100000

theorem dev1_eq : ∀ c : Dev nD, (⟨k0_dev1 c, k0_dev1_lt c⟩ : Dev nD) = prv c := by decide
theorem dev2_eq : ∀ c : Dev nD, (⟨k0_dev2 c, k0_dev2_lt c⟩ : Dev nD) = nxt c := by decide
theorem dev3_eq : ∀ c : Dev nD, (⟨k0_dev3 c, k0_dev3_lt c⟩ : Dev nD) = nxt c := by decide
theorem dev4_eq : ∀ c : Dev nD, (⟨k0_dev4 c, k0_dev4_lt c⟩ : Dev nD) = nxt c := by decide
theorem dev5_eq : ∀ c : Dev nD, (⟨k0_dev5 c, k0_dev5_lt c⟩ : Dev nD) = prv c := by decide
theorem dev6_eq : ∀ c : Dev nD, (⟨k0_dev6 c, k0_dev6_lt c⟩ : Dev nD) = prv c := by decide
theorem dev7_eq : ∀ c : Dev nD, (⟨k0_dev7 c, k0_dev7_lt c⟩ : Dev nD) = nxt c := by decide
theorem dev8_eq : ∀ c : Dev nD, (⟨k0_dev8 c, k0_dev8_lt c⟩ : Dev nD) = prv c := by decide
theorem dev9_eq : ∀ c : Dev nD, (⟨k0_dev9 c, k0_dev9_lt c⟩ : Dev nD) = nxt c := by decide
theorem dev10_eq : ∀ c : Dev nD, (⟨k0_dev10 c, k0_dev10_lt c⟩ : Dev nD) = nxt c := by decide
theorem dev11_eq : ∀ c : Dev nD, (⟨k0_dev11 c, k0_dev11_lt c⟩ : Dev nD) = prv c := by decide
theorem dev12_eq : ∀ c : Dev nD, (⟨k0_dev12 c, k0_dev12_lt c⟩ : Dev nD) = prv c := by decide
theorem dev13_eq : ∀ c : Dev nD, (⟨k0_dev13 c, k0_dev13_lt c⟩ : Dev nD) = nxt c := by decide
theorem dev14_eq : ∀ c : Dev nD, (⟨k0_dev14 c, k0_dev14_lt c⟩ : Dev nD) = prv c := by decide
theorem dev15_eq : ∀ c : Dev nD, (⟨k0_dev15 c, k0_dev15_lt c⟩ : Dev nD) = nxt c := by decide
theorem dev16_eq : ∀ c : Dev nD, (⟨k0_dev16 c, k0_dev16_lt c⟩ : Dev nD) = nxt c := by decide
theorem dev17_eq : ∀ c : Dev nD, (⟨k0_dev17 c, k0_dev17_lt c⟩ : Dev nD) = prv c := by decide
theorem dev18_eq : ∀ c : Dev nD, (⟨k0_dev18 c, k0_dev18_lt c⟩ : Dev nD) = prv c := by decide
theorem dev19_eq : ∀ c : Dev nD, (⟨k0_dev19 c, k0_dev19_lt c⟩ : Dev nD) = nxt c := by decide
theorem dev20_eq : ∀ c : Dev nD, (⟨k0_dev20 c, k0_dev20_lt c⟩ : Dev nD) = prv c := by decide
theorem dev21_eq : ∀ c : Dev nD, (⟨k0_dev21 c, k0_dev21_lt c⟩ : Dev nD) = nxt c := by decide
theorem dev22_eq : ∀ c : Dev nD, (⟨k0_dev22 c, k0_dev22_lt c⟩ : Dev nD) = nxt c := by decide
theorem dev23_eq : ∀ c : Dev nD, (⟨k0_dev23 c, k0_dev23_lt c⟩ : Dev nD) = nxt c := by decide
theorem dev24_eq : ∀ c : Dev nD, (⟨k0_dev24 c, k0_dev24_lt c⟩ : Dev nD) = prv c := by decide
theorem dev25_eq : ∀ c : Dev nD, (⟨k0_dev25 c, k0_dev25_lt c⟩ : Dev nD) = nxt c := by decide
theorem dev26_eq : ∀ c : Dev nD, (⟨k0_dev26 c, k0_dev26_lt c⟩ : Dev nD) = prv c := by decide
theorem dev27_eq : ∀ c : Dev nD, (⟨k0_dev27 c, k0_dev27_lt c⟩ : Dev nD) = nxt c := by decide
theorem dev28_eq : ∀ c : Dev nD, (⟨k0_dev28 c, k0_dev28_lt c⟩ : Dev nD) = prv c := by decide
theorem dev29_eq : ∀ c : Dev nD, (⟨k0_dev29 c, k0_dev29_lt c⟩ : Dev nD) = nxt c := by decide
theorem dev30_eq : ∀ c : Dev nD, (⟨k0_dev30 c, k0_dev30_lt c⟩ : Dev nD) = prv c := by decide

theorem off1_eq : ∀ c : Dev nD, k0_off1 c = ![(rel c 0).val, 0, 0] := by decide
theorem off2_eq : ∀ c : Dev nD, k0_off2 c = ![(rel c 0).val, 0, 0] := by decide
theorem off3_eq : ∀ (c : Dev nD) (s : Fin 4), k0_off3 c (BitVec.ofNat 32 s.val) = ![(rel c (fR s)).val, 0, 0] := by decide
theorem off4_eq : ∀ (c : Dev nD) (s : Fin 4), k0_off4 c (BitVec.ofNat 32 s.val) = ![(rel c (fR s)).val, 0, 0] := by decide
theorem off5_eq : ∀ (c : Dev nD) (s : Fin 3), k0_off5 c (BitVec.ofNat 32 s.val) = ![(rel c (fL s)).val, 0, 0] := by decide
theorem off6_eq : ∀ (c : Dev nD) (s : Fin 3), k0_off6 c (BitVec.ofNat 32 s.val) = ![(rel c (fL s)).val, 0, 0] := by decide
theorem off11_eq : ∀ (c : Dev nD) (s : Fin 7), k0_off11 c (BitVec.ofNat 32 s.val) = ![(rel c (kR s)).val, 0, 0] := by decide
theorem off12_eq : ∀ (c : Dev nD) (s : Fin 7), k0_off12 c (BitVec.ofNat 32 s.val) = ![(rel c (kR s)).val, 0, 0] := by decide
theorem off13_eq : ∀ (c : Dev nD) (s : Fin 7), k0_off13 c (BitVec.ofNat 32 s.val) = ![(rel c (kL s)).val, 0, 0] := by decide
theorem off14_eq : ∀ (c : Dev nD) (s : Fin 7), k0_off14 c (BitVec.ofNat 32 s.val) = ![(rel c (kL s)).val, 0, 0] := by decide

end Devices

end Cert.KernelIdeal.Moe

end
-- ==== Proof.Protocol.lean ====
/-
Who tells whom what. A device makes 28 copies; copy `q` completes on the device's own send semaphore and on its
neighbour's receive semaphore of that name.

  copy     from                         to                                   contents
  xR s     token slot `s` places back   the same slot of the device after    the tokens of the device at that position
  wR s     weight slot `s` places back  the same slot of the device after    the gating weights of that device
  xL s     token slot `s` places on     the same slot of the device before   the tokens of the device at that position
  wL s     weight slot `s` places on    the same slot of the device before   the gating weights of that device
  sR s     right send slot `s mod 2`    right arrival slot `s`, device after   the sum `sentR s` of the sender
  sL s     left send slot `s mod 2`     left arrival slot `s`, device before   the sum `sentL s` of the sender

Each semaphore is raised once and waited for once, by its owner. The send semaphore gives the copied slot back, the
receive semaphore the slot landed in. Before any copy, each device tells both neighbours through their barrier
semaphores that it has started: to the device before it hands the slots that device's right-going copies land in, to the
device after the slots that device's left-going copies land in. A device waits for both before its first copy.

Nobody waits forever: a device waits for copy `q` to arrive only when all it still has to send comes later than `q` in
the common order `issue`.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The copies -/

/-- A device's copies, named by what they carry, the direction they go and the hop they make. -/
inductive Cp where
  | xR (s : Fin 4) | wR (s : Fin 4) | xL (s : Fin 3) | wL (s : Fin 3) | sR (s : Fin 7) | sL (s : Fin 7)
deriving DecidableEq

open Cp

/-- Does the copy go to the device after? -/
def Cp.right : Cp → Bool
  | xR _ | wR _ | sR _ => true
  | xL _ | wL _ | sL _ => false

/-- Where a copy of device `c` goes. -/
def dst (q : Cp) (c : Dev nD) : Dev nD := if q.right then nxt c else prv c
/-- Where a copy that arrives at device `c` is from. -/
def src (q : Cp) (c : Dev nD) : Dev nD := if q.right then prv c else nxt c

theorem src_dst (q : Cp) (c : Dev nD) : src q (dst q c) = c := by
  unfold src dst; cases q.right
  · exact nxt_prv c
  · exact prv_nxt c
theorem dst_src (q : Cp) (c : Dev nD) : dst q (src q c) = c := by
  unfold src dst; cases q.right
  · exact prv_nxt c
  · exact nxt_prv c

/-- A copy's destination, as a permutation of the devices. -/
def dstEquiv (q : Cp) : Dev nD ≃ Dev nD := ⟨dst q, src q, src_dst q, dst_src q⟩

/-- The order a device issues its copies in. -/
def issue : List Cp :=
  [xR 0, wR 0, xL 0, wL 0, sR 0, sL 0, xR 1, wR 1, xL 1, wL 1, sR 1, sL 1, xR 2, wR 2, xL 2, wL 2, sR 2, sL 2,
   xR 3, wR 3, sR 3, sL 3, sR 4, sL 4, sR 5, sL 5, sR 6, sL 6]

/-- The order a device waits in: `(q, true)` for copy `q` to arrive, `(q, false)` for its own copy `q` to have left. -/
def waits : List (Cp × Bool) :=
  [(xR 0, true), (wR 0, true), (xL 0, true), (wL 0, true),
   (xR 0, false), (wR 0, false), (xL 0, false), (wL 0, false), (xR 1, true), (wR 1, true), (xL 1, true), (wL 1, true), (sR 0, true), (sL 0, true),
   (sR 0, false), (sL 0, false), (xR 1, false), (wR 1, false), (xL 1, false), (wL 1, false),
     (xR 2, true), (wR 2, true), (xL 2, true), (wL 2, true), (sR 1, true), (sL 1, true),
   (sR 1, false), (sL 1, false), (xR 2, false), (wR 2, false), (xL 2, false), (wL 2, false), (xR 3, true), (wR 3, true), (sR 2, true), (sL 2, true),
   (sR 2, false), (sL 2, false), (xR 3, false), (wR 3, false), (sR 3, true), (sL 3, true),
   (sR 3, false), (sL 3, false), (sR 4, true), (sL 4, true),
   (sR 4, false), (sL 4, false), (sR 5, true), (sL 5, true),
   (sR 6, true), (sL 6, true), (sR 5, false), (sR 6, false), (sL 5, false), (sL 6, false)]

/-- Where a copy stands in the order of issue. -/
def ord (q : Cp) : ℕ := issue.idxOf q

theorem issue_nodup : issue.Nodup := by decide
theorem mem_issue (q : Cp) : q ∈ issue := by
  cases q with
  | xR s => revert s; decide
  | wR s => revert s; decide
  | xL s => revert s; decide
  | wL s => revert s; decide
  | sR s => revert s; decide
  | sL s => revert s; decide

instance : Fintype Cp := ⟨issue.toFinset, fun q => List.mem_toFinset.mpr (mem_issue q)⟩

theorem waits_nodup : waits.Nodup := by decide
theorem mem_waits : ∀ p : Cp × Bool, p ∈ waits := by decide

/-! ## The semaphores -/

/-- The number of a copy's semaphore, at the receiver (`true`) or the sender (`false`). -/
def semIx : Cp × Bool → Fin 61
  | (xR s, false) => ⟨5 + s.val, by omega⟩
  | (xR s, true) => ⟨9 + s.val, by omega⟩
  | (wR s, false) => ⟨13 + s.val, by omega⟩
  | (wR s, true) => ⟨17 + s.val, by omega⟩
  | (xL s, false) => ⟨21 + s.val, by omega⟩
  | (xL s, true) => ⟨24 + s.val, by omega⟩
  | (wL s, false) => ⟨27 + s.val, by omega⟩
  | (wL s, true) => ⟨30 + s.val, by omega⟩
  | (sR s, false) => ⟨33 + s.val, by omega⟩
  | (sR s, true) => ⟨40 + s.val, by omega⟩
  | (sL s, false) => ⟨47 + s.val, by omega⟩
  | (sL s, true) => ⟨54 + s.val, by omega⟩

/-- The runtime's barrier semaphore. -/
abbrev barS : Sem sig := (SemArray.scalar (sig.barrier 0 rfl) : Sems sig S_).sem

/-- The semaphores of the exchange: the barrier's, and two for each copy. -/
abbrev semOf : Option (Cp × Bool) → SemLoc sig
  | none => .reg barS
  | some p => .dma (semIx p)

theorem semIx_inj : ∀ p p' : Cp × Bool, semIx p = semIx p' → p = p' := by decide +kernel

/-- Which copy a semaphore is for. -/
def cpOf (sm : SemLoc sig) : Option (Cp × Bool) := waits.find? fun p => decide (semOf (some p) = sm)

theorem cpOf_some (p : Cp × Bool) : cpOf (semOf (some p)) = some p := by revert p; decide +kernel
theorem cpOf_none : cpOf (semOf none) = none := by decide +kernel

abbrev cell (c : Dev nD) (o : Option (Cp × Bool)) : GSem nD τ sig := ((c : Thread nD τ), semOf o)
abbrev barCell (c : Dev nD) : GSem nD τ sig := ((c : Thread nD τ), .reg barS)
abbrev sendCell (c : Dev nD) (q : Cp) : GSem nD τ sig := ((c : Thread nD τ), .dma (semIx (q, false)))
abbrev recvCell (c : Dev nD) (q : Cp) : GSem nD τ sig := ((c : Thread nD τ), .dma (semIx (q, true)))

/-! ## The buffers -/

abbrev xM : Memref sig .tc .vmem S8x512x256 .bf16 := Memref.whole cc0_scratch0
abbrev wM : Memref sig .tc .vmem S8x512x32 .bf16 := Memref.whole cc0_scratch1
abbrev eM : Memref sig .tc .vmem S4x256x512 .bf16 := Memref.whole cc0_scratch2
abbrev arrRM : Memref sig .tc .vmem S7x512x256 .bf16 := Memref.whole cc0_scratch3
abbrev arrLM : Memref sig .tc .vmem S7x512x256 .bf16 := Memref.whole cc0_scratch4
abbrev outRM : Memref sig .tc .vmem S2x512x256 .bf16 := Memref.whole cc0_scratch5
abbrev outLM : Memref sig .tc .vmem S2x512x256 .bf16 := Memref.whole cc0_scratch6

/-- The units a copy moves on its semaphores: a slot of tokens or of sums, or a slot of gating weights. -/
abbrev Nx : ℕ := (xM.slice (slotRect 8 512 256 0) (fun _ => rfl)).view.dmaCredit
abbrev Nw : ℕ := (wM.slice (slotRect 8 512 32 0) (fun _ => rfl)).view.dmaCredit
def units : Cp → ℕ
  | wR _ | wL _ => Nw
  | _ => Nx

theorem units_pos (q : Cp) : 0 < units q := by
  have hx : 0 < Nx := View.dmaCredit_pos _ (by decide)
  have hw : 0 < Nw := View.dmaCredit_pos _ (by decide)
  cases q <;> assumption

/-! ## The contents -/

/-- What the devices start from: tokens, router weights, the two chosen experts of each token, expert weights. -/
structure Inputs (F : FTy → Type) where
  x : Dev nD → Vec F S512x256 .bf16
  r : Dev nD → Vec F S256x32 .bf16
  idx : Dev nD → Vec F S512x2 .i32
  e : Dev nD → Vec F S4x256x512 .bf16

variable (I : Inputs F)

/-- One of the two columns of a device's choices. -/
def Inputs.choice0 (d : Dev nD) : Vec F S512x1 .i32 :=
  (Memref.whole cc0_stg2_0).view.readAt (Elt F) (Rect.unit (s := S512x2) ![0, 0] S512x1.size inb_S512x2_S512x1_0_0).toLoadRect (I.idx d)
def Inputs.choice1 (d : Dev nD) : Vec F S512x1 .i32 :=
  (Memref.whole cc0_stg2_0).view.readAt (Elt F) (Rect.unit (s := S512x2) ![0, 1] S512x1.size inb_S512x2_S512x1_0_1).toLoadRect (I.idx d)

/-- A device's tokens, as a slot. -/
def Inputs.tok (d : Dev nD) : Vec F S1x512x256 .bf16 := k0_pay7 (k0_pay1 (I.x d))
/-- A device's gating weights, as a slot. -/
def Inputs.gate (d : Dev nD) : Vec F S1x512x32 .bf16 :=
  k0_pay8 (k0_pay3 (I.choice0 d)) (k0_pay4 (I.choice1 d)) (k0_pay5 (I.x d) (I.r d) (I.choice0 d)) (k0_pay6 (I.x d) (I.r d) (I.choice1 d))
/-- A device's expert `k`, as a slot. -/
def Inputs.slab (d : Dev nD) (k : Fin 4) : Vec F S1x256x512 .bf16 :=
  k0_pay9 ((Memref.whole cc0_stg3_0).view.readAt (Elt F) (Rect.unit (s := S4x256x512) ![k.val, 0, 0] S1x256x512.size (slot_inb k)).toLoadRect (I.e d))

/-- The tokens of the device at each position; the gating weights. -/
def Inputs.toks : Vec F S8x512x256 .bf16 := stack fun j : Fin 8 => I.tok (devAt j)
def Inputs.gates : Vec F S8x512x32 .bf16 := stack fun j : Fin 8 => I.gate (devAt j)
def Inputs.slabs (c : Dev nD) : Vec F S4x256x512 .bf16 := stack (I.slab c)

/-- Device `c`'s sum over the block of the device `k` places on, left half of the columns. -/
def Inputs.partR (c : Dev nD) (k : Fin 8) : FVec F S512x256 .f32 :=
  sumR c (I.tok (devAt (rel c k))) (I.gate (devAt (rel c k))) (I.slab c 0) (I.slab c 1) (I.slab c 2) (I.slab c 3)
/-- The same, right half of the columns. -/
def Inputs.partL (c : Dev nD) (k : Fin 8) : FVec F S512x256 .f32 :=
  sumL c (I.tok (devAt (rel c k))) (I.gate (devAt (rel c k))) (I.slab c 0) (I.slab c 1) (I.slab c 2) (I.slab c 3)

/-- What device `c` sends to the device after at each hop: its sum over one block, and what arrived. -/
def Inputs.sentR : ℕ → Dev nD → Vec F S1x512x256 .bf16
  | 0, c => firstHop (I.partR c 7)
  | s + 1, c => firstHop (withArrived (I.partR c (Fin.ofNat 8 (6 - s))) (Inputs.sentR s (prv c)))
/-- What device `c` sends to the device before at each hop. -/
def Inputs.sentL : ℕ → Dev nD → Vec F S1x512x256 .bf16
  | 0, c => firstHop (I.partL c 1)
  | s + 1, c => firstHop (withArrived (I.partL c (Fin.ofNat 8 (s + 2))) (Inputs.sentL s (nxt c)))

/-- The two halves of device `c`'s result. -/
def Inputs.resR (c : Dev nD) : FVec F S512x256 .f32 := withArrived (I.partR c 0) (I.sentR 6 (prv c))
def Inputs.resL (c : Dev nD) : FVec F S512x256 .f32 := withArrived (I.partL c 0) (I.sentL 6 (nxt c))

/-! ## What is held -/

def xAt (c : Dev nD) (j : Fin 8) (q : PosShare TreeShare) (f : Vec F S8x512x256 .bf16) : sProp 𝕄 :=
  ((c : Thread nD τ).loc cc0_scratch0) ↦[slot 8 512 256 j]{q} f
def wAt (c : Dev nD) (j : Fin 8) (q : PosShare TreeShare) (f : Vec F S8x512x32 .bf16) : sProp 𝕄 :=
  ((c : Thread nD τ).loc cc0_scratch1) ↦[slot 8 512 32 j]{q} f
def arrRAt (c : Dev nD) (j : Fin 7) (f : Vec F S7x512x256 .bf16) : sProp 𝕄 :=
  ((c : Thread nD τ).loc cc0_scratch3) ↦[slot 7 512 256 j]{fullShare} f
def arrLAt (c : Dev nD) (j : Fin 7) (f : Vec F S7x512x256 .bf16) : sProp 𝕄 :=
  ((c : Thread nD τ).loc cc0_scratch4) ↦[slot 7 512 256 j]{fullShare} f
def outRAt (c : Dev nD) (j : Fin 2) (f : Vec F S2x512x256 .bf16) : sProp 𝕄 :=
  ((c : Thread nD τ).loc cc0_scratch5) ↦[slot 2 512 256 j]{fullShare} f
def outLAt (c : Dev nD) (j : Fin 2) (f : Vec F S2x512x256 .bf16) : sProp 𝕄 :=
  ((c : Thread nD τ).loc cc0_scratch6) ↦[slot 2 512 256 j]{fullShare} f

/-- What has arrived from the device before, and from the device after, hop by hop. -/
def Inputs.arrR (c : Dev nD) : Vec F S7x512x256 .bf16 := stack fun s : Fin 7 => I.sentR s.val (prv c)
def Inputs.arrL (c : Dev nD) : Vec F S7x512x256 .bf16 := stack fun s : Fin 7 => I.sentL s.val (nxt c)

/-- The slot of device `c` in which copy `q` lands, at any contents. -/
def landAt : Cp → Dev nD → sProp 𝕄
  | xR s, c => iprop(∃ f, xAt c (rel c (kR (s.castLE (by decide)))) fullShare f)
  | wR s, c => iprop(∃ f, wAt c (rel c (kR (s.castLE (by decide)))) fullShare f)
  | xL s, c => iprop(∃ f, xAt c (rel c (kL (s.castLE (by decide)))) fullShare f)
  | wL s, c => iprop(∃ f, wAt c (rel c (kL (s.castLE (by decide)))) fullShare f)
  | sR s, c => iprop(∃ f, arrRAt c s f)
  | sL s, c => iprop(∃ f, arrLAt c s f)

/-- What the arrival of copy `q` at device `c` hands it. -/
def recvPay : Cp → Dev nD → sProp 𝕄
  | xR s, c => xAt c (rel c (kR (s.castLE (by decide)))) fullShare I.toks
  | wR s, c => wAt c (rel c (kR (s.castLE (by decide)))) fullShare I.gates
  | xL s, c => xAt c (rel c (kL (s.castLE (by decide)))) fullShare I.toks
  | wL s, c => wAt c (rel c (kL (s.castLE (by decide)))) fullShare I.gates
  | sR s, c => arrRAt c s (I.arrR c)
  | sL s, c => arrLAt c s (I.arrL c)

/-- A device's own block goes both ways at once: one half of it is lent to each copy. -/
def shR (s : Fin 4) : PosShare TreeShare := if s.val = 0 then fullShare.left else fullShare
def shL (s : Fin 3) : PosShare TreeShare := if s.val = 0 then fullShare.right else fullShare

/-- The send slot of hop `s`. -/
def buf (s : Fin 7) : Fin 2 := ⟨s.val % 2, Nat.mod_lt _ (by decide)⟩

/-- What device `c` has back when its copy `q` has left. -/
def sendPay : Cp → Dev nD → sProp 𝕄
  | xR s, c => xAt c (rel c (fR s)) (shR s) I.toks
  | wR s, c => wAt c (rel c (fR s)) (shR s) I.gates
  | xL s, c => xAt c (rel c (fL s)) (shL s) I.toks
  | wL s, c => wAt c (rel c (fL s)) (shL s) I.gates
  | sR s, c => iprop(∃ f, outRAt c (buf s) f)
  | sL s, c => iprop(∃ f, outLAt c (buf s) f)

/-- What device `c`'s barrier hands it: from the device after (`true`) the slots its right-going copies land in, from the
    device before (`false`) those its left-going copies land in. -/
def barPay (d : Bool) (c : Dev nD) : sProp 𝕄 :=
  bigSep (Finset.univ.filter fun q : Cp => q.right = d) fun q => landAt q (if d then nxt c else prv c)

omit [FloatOps F] in
instance xAt_storable (c : Dev nD) (j q f) : BI.Storable (upEmb : UEmb _ 𝕄) (xAt (F := F) c j q f) := by unfold xAt; infer_instance
omit [FloatOps F] in
instance wAt_storable (c : Dev nD) (j q f) : BI.Storable (upEmb : UEmb _ 𝕄) (wAt (F := F) c j q f) := by unfold wAt; infer_instance
omit [FloatOps F] in
instance arrRAt_storable (c : Dev nD) (j f) : BI.Storable (upEmb : UEmb _ 𝕄) (arrRAt (F := F) c j f) := by unfold arrRAt; infer_instance
omit [FloatOps F] in
instance arrLAt_storable (c : Dev nD) (j f) : BI.Storable (upEmb : UEmb _ 𝕄) (arrLAt (F := F) c j f) := by unfold arrLAt; infer_instance
omit [FloatOps F] in
instance outRAt_storable (c : Dev nD) (j f) : BI.Storable (upEmb : UEmb _ 𝕄) (outRAt (F := F) c j f) := by unfold outRAt; infer_instance
omit [FloatOps F] in
instance outLAt_storable (c : Dev nD) (j f) : BI.Storable (upEmb : UEmb _ 𝕄) (outLAt (F := F) c j f) := by unfold outLAt; infer_instance
omit [FloatOps F] in
instance landAt_storable (q : Cp) (c : Dev nD) : BI.Storable (upEmb : UEmb _ 𝕄) (landAt (F := F) q c) := by
  cases q <;> unfold landAt <;> infer_instance
instance recvPay_storable (q : Cp) (c : Dev nD) : BI.Storable (upEmb : UEmb _ 𝕄) (recvPay I q c) := by
  cases q <;> unfold recvPay <;> infer_instance
instance sendPay_storable (q : Cp) (c : Dev nD) : BI.Storable (upEmb : UEmb _ 𝕄) (sendPay I q c) := by
  cases q <;> unfold sendPay <;> infer_instance
omit [FloatOps F] in
instance barPay_storable (d : Bool) (c : Dev nD) : BI.Storable (upEmb : UEmb _ 𝕄) (barPay (F := F) d c) := by
  unfold barPay; infer_instance

/-! ## The schedule -/

/-- One round: a barrier's two units, one from each neighbour, and each copy's units. -/
def sched : Rounds.Schedule (GSem nD τ sig) Bool 𝕄 where
  duties g r := if r = 0 then (if g.2 = .reg barS then Finset.univ else {false}) else ∅
  unitless _ := False
  amount g _ _ := match cpOf g.2 with
    | some p => units p.1
    | none => 1
  payload g _ d := match cpOf g.2 with
    | some (q, true) => recvPay I q g.1.1
    | some (q, false) => sendPay I q g.1.1
    | none => barPay d g.1.1
  amount_pos g _ _ _ := by
    cases cpOf g.2 with
    | none => exact Nat.one_pos
    | some p => exact units_pos p.1

instance sched_payload_storable (g : GSem nD τ sig) (r : ℕ) (d : Bool) :
    BI.Storable (upEmb : UEmb _ 𝕄) ((sched I).payload g r d) := by
  show BI.Storable upEmb (match cpOf g.2 with
    | some (q, true) => recvPay I q g.1.1
    | some (q, false) => sendPay I q g.1.1
    | none => barPay d g.1.1)
  split <;> infer_instance

section Sched
variable (c : Dev nD)

theorem duties_bar : (sched I).duties (barCell c) 0 = Finset.univ := by dsimp only [sched]; rw [if_pos rfl, if_pos rfl]
theorem duties_cp (p : Cp × Bool) : (sched I).duties (cell c (some p)) 0 = {false} := by
  dsimp only [sched]; rw [if_pos rfl, if_neg (fun h => by cases h)]
theorem duties_later (g : GSem nD τ sig) : ∀ r, 1 ≤ r → (sched I).duties g r = ∅ :=
  fun r hr => by dsimp only [sched]; rw [if_neg (by omega)]

theorem amount_bar (d : Bool) : (sched I).amount (barCell c) 0 d = 1 := by
  dsimp only [sched]; rw [show cpOf (SemLoc.reg barS) = none from cpOf_none]
theorem amount_cp (p : Cp × Bool) (d : Bool) : (sched I).amount (cell c (some p)) 0 d = units p.1 := by
  dsimp only [sched]; rw [show cpOf (SemLoc.dma (semIx p)) = some p from cpOf_some p]

theorem expect_bar : (sched I).expect (barCell c) 0 = 2 := by
  unfold Schedule.expect Schedule.amountOf
  rw [duties_bar, Finset.sum_congr rfl fun d _ => amount_bar I c d, Finset.sum_const, Finset.card_univ, Fintype.card_bool, smul_eq_mul]
theorem expect_cp (p : Cp × Bool) : (sched I).expect (cell c (some p)) 0 = units p.1 := by
  unfold Schedule.expect Schedule.amountOf; rw [duties_cp, Finset.sum_singleton, amount_cp]

theorem payload_bar (d : Bool) : (sched I).payload (barCell c) 0 d = barPay d c := by
  dsimp only [sched]; rw [show cpOf (SemLoc.reg barS) = none from cpOf_none]
theorem payload_send (q : Cp) (d : Bool) : (sched I).payload (sendCell c q) 0 d = sendPay I q c := by
  dsimp only [sched]; rw [show cpOf (SemLoc.dma (semIx (q, false))) = some (q, false) from cpOf_some _]
theorem payload_recv (q : Cp) (d : Bool) : (sched I).payload (recvCell c q) 0 d = recvPay I q c := by
  dsimp only [sched]; rw [show cpOf (SemLoc.dma (semIx (q, true))) = some (q, true) from cpOf_some _]

/-- What a wait for the whole round hands over. -/
theorem rest_bar : bigSep ((sched I).duties (barCell c) 0 \ ∅) (fun d => (sched I).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send (q : Cp) : bigSep ((sched I).duties (sendCell c q) 0 \ ∅) (fun d => (sched I).payload (sendCell c q) 0 d) = sendPay I q c := by
  rw [Finset.sdiff_empty, duties_cp I c (q, false), bigSep_singleton, payload_send]
theorem rest_recv (q : Cp) : bigSep ((sched I).duties (recvCell c q) 0 \ ∅) (fun d => (sched I).payload (recvCell c q) 0 d) = recvPay I q c := by
  rw [Finset.sdiff_empty, duties_cp I c (q, true), bigSep_singleton, payload_recv]

end Sched

/-! ## What a device owes, and the order of the waits -/

/-- The arrivals device `c` owes for the copies of a list. -/
def owedFor (c : Dev nD) : List Cp → CellTallies nD τ sig Unit
  | [] => 0
  | q :: l => owedFor c l + tallyAt (recvCell (dst q c) q) () (units q)

/-- At launch: every copy's arrival, and a unit of each neighbour's barrier. -/
def owed₁ (c : Dev nD) : CellTallies nD τ sig Unit := owedFor c issue + tallyAt (barCell (nxt c)) () 1
def owed₀ (c : Dev nD) : CellTallies nD τ sig Unit := owed₁ c + tallyAt (barCell (prv c)) () 1

def L (g : GSem nD τ sig) : Finset Unit := if g.1.2 = .tc then {()} else ∅
/-- The barrier first, then arrivals in the order of issue; a device's own copies leaving, and the staging, wait for nobody. -/
def lv (g : GSem nD τ sig) (_ : Unit) : ℕ :=
  if g.2 = .reg barS then 1 else match cpOf g.2 with
    | some (q, true) => 2 + ord q
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (q : Cp) (u : Unit) : lv (recvCell c q) u = 2 + ord q := by
  unfold lv; rw [if_neg (fun h => by cases h), show cpOf (SemLoc.dma (semIx (q, true))) = some (q, true) from cpOf_some _]
theorem lv_send (c : Dev nD) (q : Cp) (u : Unit) : lv (sendCell c q) u = 0 := by
  unfold lv; rw [if_neg (fun h => by cases h), show cpOf (SemLoc.dma (semIx (q, false))) = some (q, false) from cpOf_some _]

theorem owedFor_pos {c : Dev nD} {l : List Cp} {g : GSem nD τ sig} {u : Unit} (h : 0 < owedFor c l g u) :
    ∃ q ∈ l, g = recvCell (dst q c) q := by
  induction l with
  | nil => exact absurd h (Nat.lt_irrefl 0)
  | cons q l ih =>
    unfold owedFor at h
    rw [Pi.add_apply, Finsupp.add_apply, tallyAt_apply] at h
    by_cases hg : g = recvCell (dst q c) q ∧ u = ()
    · exact ⟨q, List.mem_cons_self, hg.1⟩
    · rw [if_neg hg, Nat.add_zero] at h
      obtain ⟨q', hq', e⟩ := ih h
      exact ⟨q', List.mem_cons_of_mem _ hq', e⟩

theorem owed₀_pos {c : Dev nD} {g : GSem nD τ sig} {u : Unit} (h : 0 < owed₀ c g u) :
    (∃ q, g = recvCell (dst q c) q) ∨ ∃ d, g = barCell d := by
  unfold owed₀ owed₁ at h
  rw [Pi.add_apply, Finsupp.add_apply, Pi.add_apply, Finsupp.add_apply, tallyAt_apply, tallyAt_apply] at h
  by_cases h1 : g = barCell (nxt c) ∧ u = ()
  · exact .inr ⟨_, h1.1⟩
  by_cases h2 : g = barCell (prv c) ∧ u = ()
  · exact .inr ⟨_, h2.1⟩
  rw [if_neg h1, if_neg h2] at h
  obtain ⟨q, -, e⟩ := owedFor_pos (c := c) (l := issue) (g := g) (u := u) h
  exact .inl ⟨q, e⟩

/-- A device may wait on one of its cells that lies below all the arrivals it owes. -/
theorem mayWait_owed (c : Dev nD) (sm : SemLoc sig) (n : ℕ) (l : List Cp) (hn : lv ((c : Thread nD τ), sm) () ≤ n)
    (hl : ∀ q ∈ l, n < 2 + ord q) : (levAts L lv : sProp 𝕄) ⊢ MayWait (c : Thread nD τ) sm () (owedFor c l) :=
  MayOwe.of_cut (L := L) (lev := lv) n (fun p hp => by rw [Finset.mem_singleton.mp hp, L_tc]; exact Finset.mem_singleton_self _)
    (fun g u hg => by obtain ⟨q, -, rfl⟩ := owedFor_pos hg; exact Finset.mem_singleton_self _)
    (fun p hp => by rw [Finset.mem_singleton.mp hp]; exact hn)
    (fun g u hg => by obtain ⟨q, hq, rfl⟩ := owedFor_pos hg; rw [lv_recv]; exact hl q hq)

theorem mayWait_start (c : Dev nD) (sm : SemLoc sig) (hn : lv ((c : Thread nD τ), sm) () = 0) :
    (levAts L lv : sProp 𝕄) ⊢ MayWait (c : Thread nD τ) sm () (owed₀ c) :=
  MayOwe.of_cut (L := L) (lev := lv) 0 (fun p hp => by rw [Finset.mem_singleton.mp hp, L_tc]; exact Finset.mem_singleton_self _)
    (fun g u hg => by rcases owed₀_pos hg with ⟨q, rfl⟩ | ⟨d, rfl⟩ <;> exact Finset.mem_singleton_self _)
    (fun p hp => by rw [Finset.mem_singleton.mp hp]; exact hn.le)
    (fun g u hg => by
      rcases owed₀_pos hg with ⟨q, rfl⟩ | ⟨d, rfl⟩
      · rw [lv_recv]; omega
      · rw [lv_bar]; exact Nat.one_pos)

end Cert.KernelIdeal.Moe

end
-- ==== Proof.Ops.lean ====
/-
The steps of a device's run, one rule for each kind: a copy issued, a wait for a copy to arrive, a wait for an own copy
to have left. `prot c i k` is all of the exchange that device `c` holds after issuing `i` copies and finishing `k` waits.
-/
module

public import proofs.«01_k».proof.Proof.Protocol

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

abbrev 𝒱₀ : Variants := Variants.none

/-- Device `c` runs a program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## A list of things held -/

/-- One thing for each entry of a list. -/
def every {ι : Type} (Φ : ι → sProp 𝕄) : List ι → sProp 𝕄
  | [] => iprop(emp)
  | a :: l => iprop(Φ a ∗ every Φ l)

omit [FloatOps F] in
theorem every_cons {ι : Type} (Φ : ι → sProp 𝕄) (a : ι) (l : List ι) : every Φ (a :: l) = iprop(Φ a ∗ every Φ l) := rfl

omit [FloatOps F] in
theorem every_concat {ι : Type} (Φ : ι → sProp 𝕄) (l : List ι) (a : ι) : iprop(every Φ l ∗ Φ a) ⊢ every Φ (l ++ [a]) := by
  induction l with
  | nil =>
    show iprop(emp ∗ Φ a) ⊢ iprop(Φ a ∗ emp)
    iintro ⟨-, H⟩; isplitl [H]; · iexact H
    iempintro
  | cons b l ih =>
    show iprop((Φ b ∗ every Φ l) ∗ Φ a) ⊢ iprop(Φ b ∗ every Φ (l ++ [a]))
    iintro ⟨⟨Hb, Hl⟩, Ha⟩
    isplitl [Hb]; · iexact Hb
    iapply ih; isplitl [Hl] <;> iassumption

omit [FloatOps F] in
theorem every_eq {ι : Type} [DecidableEq ι] (Φ : ι → sProp 𝕄) (l : List ι) (h : l.Nodup) : every Φ l = bigSep l.toFinset Φ := by
  induction l with
  | nil => rfl
  | cons b l ih =>
    rw [List.toFinset_cons, bigSep_insert (by rw [List.mem_toFinset]; exact (List.nodup_cons.mp h).1), ← ih (List.nodup_cons.mp h).2]
    rfl

omit [FloatOps F] in
theorem every_univ {ι : Type} [DecidableEq ι] [Fintype ι] (Φ : ι → sProp 𝕄) (l : List ι) (h : l.Nodup) (hm : ∀ a, a ∈ l) :
    every Φ l = bigSep Finset.univ Φ := by
  rw [every_eq Φ l h]; congr 1; exact Finset.eq_univ_iff_forall.mpr fun a => List.mem_toFinset.mpr (hm a)

variable (I : Inputs F) (K : Dev nD × Option (Cp × Bool) → ℕ)

/-! ## What every device knows -/

/-- The invariants of all cells, and that each is at its first round. -/
def records : sProp 𝕄 :=
  iprop((bigSep Finset.univ fun x : Dev nD × Option (Cp × Bool) => cellInv ER (sched I) (K x) (cell x.1 x.2))
    ∗ bigSep Finset.univ fun x : Dev nD × Option (Cp × Bool) => reached ER (cell x.1 x.2) 0)

def env : sProp 𝕄 := iprop(records I K ∗ levAts L lv)

instance records_persistent : BI.Persistent (records I K) := by unfold records; infer_instance
instance env_persistent : BI.Persistent (env I K) := by unfold env; infer_instance

theorem env_inv (x : Dev nD × Option (Cp × Bool)) : env I K ⊢ cellInv ER (sched I) (K x) (cell x.1 x.2) := by
  unfold env records
  iintro ⟨⟨H, -⟩, -⟩
  have h : (bigSep Finset.univ fun x : Dev nD × Option (Cp × Bool) => (cellInv ER (sched I) (K x) (cell x.1 x.2) : sProp 𝕄)) ⊢ cellInv ER (sched I) (K x) (cell x.1 x.2) :=
    bigSep_elim (Finset.mem_univ x)
  iapply h; iexact H
theorem env_reached (x : Dev nD × Option (Cp × Bool)) : env I K ⊢ reached ER (cell x.1 x.2) 0 := by
  unfold env records
  iintro ⟨⟨-, H⟩, -⟩
  have h : (bigSep Finset.univ fun x : Dev nD × Option (Cp × Bool) => (reached ER (cell x.1 x.2) 0 : sProp 𝕄)) ⊢ reached ER (cell x.1 x.2) 0 :=
    bigSep_elim (Finset.mem_univ x)
  iapply h; iexact H
theorem env_lev : env I K ⊢ levAts L lv := by
  unfold env; iintro ⟨-, H⟩; iexact H

/-! ## What a device holds -/

/-- What device `c` needs to issue copy `q`: both duties' tokens, the slot it lands in, the position on its send cell. -/
def ticket (c : Dev nD) (q : Cp) : sProp 𝕄 :=
  iprop(dutyTok ER (sendCell c q) 0 false ∗ dutyTok ER (recvCell (dst q c) q) 0 false ∗ landAt q (dst q c) ∗ atPos ER (sendCell c q) 0 ∅ 0)

/-- What it needs to wait for an arrival. -/
def coming (c : Dev nD) (p : Cp × Bool) : sProp 𝕄 :=
  if p.2 then iprop(atPos ER (recvCell c p.1) 0 ∅ 0 ∗ cred (tallyAt (recvCell c p.1) () (units p.1))) else iprop(emp)

/-- A semaphore done with. -/
abbrev shut (c : Dev nD) (p : Cp × Bool) : sProp 𝕄 := semVal (cell c (some p)) 0

/-- What it needs to wait for its own copy `q` to have left. -/
def flight (c : Dev nD) (q : Cp) : sProp 𝕄 :=
  iprop(cred (tallyAt (sendCell c q) () (units q)) ∗ atPos ER (sendCell c q) 0 ∅ 0)

/-- The exchange after `i` copies issued and `k` waits. -/
def prot (c : Dev nD) (i k : ℕ) : sProp 𝕄 :=
  iprop(every (ticket c) (issue.drop i) ∗ every (coming c) (waits.drop k) ∗ every (shut c) (waits.take k)
    ∗ ∃ W : Waits sig Unit, owes (c : Thread nD τ) (owedFor c (issue.drop i)) W)

section Steps

/-- A copy issued: the slot it is from, and what is in it, on the way. -/
theorem wp_send_cp (q : Cp) (c n : Dev nD) (hn : n = dst q c) {i k : ℕ} (hi : issue.drop i = q :: issue.drop (i + 1))
    {sp sp' : Space} {s : Shape} {e : EltTy} {sm : Memref sig .tc sp s e} {dm : Memref sig (Dev.tc n : Thread nD τ).2.kind sp' s e}
    {hsc : dm.view.ref.isScScratch = false} {sS sem : SemLoc sig} (hsS : sS = .dma (semIx (q, false))) (hsem' : sem = .dma (semIx (q, true)))
    {hsrc : sm.view.WordExact} {hdst : dm.view.WordExact} {hsem : DmaTarget.Typed sp sem (.remote (Dev.tc n : Thread nD τ) dm sS hsc)}
    {α : Type} {Q : α → sProp 𝕄} {κ : PUnit → Prog (TpuEff nD τ sig (Elt F) Λ₀ .tc) α} {sh : PosShare TreeShare} (fs : Buf (Elt F) (sm.view.loc (c : Thread nD τ)))
    (hN : dm.view.amount sem = units q)
    (hp : (sm.view.loc (c : Thread nD τ) ↦[sm.view.set]{sh} fs : sProp 𝕄) ⊢ sendPay I q c)
    (hl : (landAt q n : sProp 𝕄) ⊢ iprop(∃ fd : Buf (Elt F) (dm.view.loc (n : Thread nD τ)), dm.view.loc (n : Thread nD τ) ↦[dm.view.set]{fullShare} fd))
    (hr : ∀ fd : Buf (Elt F) (dm.view.loc (n : Thread nD τ)),
      (dm.view.loc (n : Thread nD τ) ↦[dm.view.set]{fullShare} (dm.view.write (Elt F) fd (sm.view.read (Elt F) fs) Finset.univ) : sProp 𝕄) ⊢ recvPay I q n) :
    iprop(env I K ∗ prot c i k ∗ (sm.view.loc (c : Thread nD τ) ↦[sm.view.set]{sh} fs))
      ⊢ iprop(((prot c (i + 1) k ∗ flight c q) -∗ WP c (κ ⟨⟩) Q)
          -∗ WP c (.op (.enqueueDma sm (.remote (Dev.tc n : Thread nD τ) dm sS hsc) sem hsrc hdst hsem) κ) Q) := by
  subst hn hsS hsem'
  unfold prot
  rw [hi, every_cons]
  unfold ticket
  iintro ⟨#He, ⟨⟨⟨Ht1, Ht2, Hl, Hat⟩, Hts⟩, Hc, Hz, ⟨%W, HO⟩⟩, Hs⟩ Hk
  ihave Hl' := hl $$ Hl
  icases Hl' with ⟨%fd, Hd⟩
  iapply (Rounds.wp_send_pointsTo 𝒱₀ ER (sched I) (c : Thread nD τ) none (κ₁ := K (c, some (q, false))) (κ₂ := K (dst q c, some (q, true)))
    (r₁ := 0) (r₂ := 0) (d₁ := false) (d₂ := false) (fd := fd) (fs := fs) (q := sh)
    (by rw [duties_cp I c (q, false)]; exact Finset.mem_singleton_self _) (by rw [duties_cp I (dst q c) (q, true)]; exact Finset.mem_singleton_self _)
    () () (units q) hN (amount_cp I c (q, false) false) (amount_cp I (dst q c) (q, true) false) (owedFor c (issue.drop (i + 1))) rfl (W := W)
    (by rw [payload_send]; exact hp) (by rw [payload_recv]; exact hr fd)) $$ [Hs Hd HO Ht1 Ht2]
  · isplitr; · iapply (env_inv I K (c, some (q, false))); iexact He
    isplitr; · iapply (env_inv I K (dst q c, some (q, true))); iexact He
    isplitl [Hs]; · iexact Hs
    isplitl [Hd]; · iexact Hd
    isplitl [HO]; · iexact HO
    isplitl [Ht1]; · iexact Ht1
    isplitr; · iapply (env_reached I K (c, some (q, false))); iexact He
    isplitl [Ht2]; · iexact Ht2
    iapply (env_reached I K (dst q c, some (q, true))); iexact He
  iintro ⟨Hcr, HO⟩
  iapply Hk
  isplitr [Hcr Hat]
  · isplitl [Hts]; · iexact Hts
    isplitl [Hc]; · iexact Hc
    isplitl [Hz]; · iexact Hz
    iexists W; iexact HO
  unfold flight
  isplitl [Hcr] <;> iassumption

/-- The list of waits, one further on. -/
theorem waits_step {k : ℕ} {p : Cp × Bool} (hk : waits[k]? = some p) :
    waits.drop k = p :: waits.drop (k + 1) ∧ waits.take (k + 1) = waits.take k ++ [p] := by
  obtain ⟨h, e⟩ := List.getElem?_eq_some_iff.mp hk
  subst e
  exact ⟨List.drop_eq_getElem_cons h, by rw [List.take_succ, hk]; rfl⟩

/-- A wait for copy `q` to arrive: what it carried. -/
theorem wp_wait_recv (q : Cp) (c : Dev nD) {i k : ℕ} (hk : waits[k]? = some (q, true)) (hi : ∀ q' ∈ issue.drop i, ord q < ord q')
    {sem : DmaSem sig} (hsem : sem = semIx (q, true)) {sp sp' : Space} {s s' : Shape} {e e' : EltTy}
    {sm : Memref sig .tc sp s e} {dm : Memref sig .tc sp' s' e'} {h1 : _} {h2 : _} (hN : dm.view.dmaCredit = units q)
    {α : Type} {Q : α → sProp 𝕄} {κ : PUnit → Prog (TpuEff nD τ sig (Elt F) Λ₀ .tc) α} :
    iprop(env I K ∗ prot c i k)
      ⊢ iprop(((prot c i (k + 1) ∗ recvPay I q c) -∗ WP c (κ ⟨⟩) Q) -∗ WP c (.op (.waitDma2 sem sm dm h1 h2) κ) Q) := by
  subst hsem
  obtain ⟨hd, ht⟩ := waits_step hk
  unfold prot
  rw [hd, ht, every_cons]
  unfold coming
  simp only [if_true, if_false, Bool.false_eq_true]
  have hx : 0 + dm.view.dmaCredit = (sched I).expect (recvCell c q) 0 := by
    rw [Nat.zero_add, hN]; exact (expect_cp I c (q, true)).symm
  have hw : (levAts L lv : sProp 𝕄) ⊢ MayWait (c : Thread nD τ) (.dma (semIx (q, true))) () (owedFor c (issue.drop i)) :=
    mayWait_owed c _ (2 + ord q) _ (lv_recv c q ()).le (fun q' hq' => by have := hi q' hq'; omega)
  iintro ⟨#He, ⟨Hts, ⟨⟨Hat, Hcr⟩, Hc⟩, Hz, ⟨%W, HO⟩⟩⟩ Hk
  iapply (Rounds.wp_wait_rest_token 𝒱₀ ER (sched I) (c : Thread nD τ) none (κ := K (c, some (q, true)))
    (wpE_waitDma2_eq 𝒱₀ (c : Thread nD τ) none Set.univ) (Set.mem_univ _) () (O := owedFor c (issue.drop i)) (W := W) (R := 0) (m := 0) (T := ∅)
    hx) $$ [Hcr HO Hat]
  · isplitr; · iapply (env_inv I K (c, some (q, true))); iexact He
    isplitl [Hcr]; · rw [hN]; iexact Hcr
    isplitl [HO]; · iexact HO
    isplitr
    · iapply (mayWait_owed c (.dma (semIx (q, true))) (2 + ord q) (issue.drop i) (lv_recv c q ()).le (fun q' hq' => by have := hi q' hq'; omega))
      iapply (env_lev I K); iexact He
    iexact Hat
  iintro ⟨HO, Hat, -, Hpay⟩
  ihave Hp := (Entails.of_eq (rest_recv I c q)) $$ Hpay
  imod (Rounds.cell_close ER (sched I) (Set.mem_univ (K (c, some (q, true)))) (fun h => h) (R := 0 + 1) (duties_later I (recvCell c q))) $$ [Hat] with Hz'
  · isplitr; · iapply (env_inv I K (c, some (q, true))); iexact He
    iexact Hat
  iapply Hk
  isplitr [Hp]
  · isplitl [Hts]; · iexact Hts
    isplitl [Hc]; · iexact Hc
    isplitl [Hz Hz']
    · iapply every_concat; isplitl [Hz]; · iexact Hz
      iexact Hz'
    iexists _; iexact HO
  iexact Hp

/-- A wait for the own copy `q` to have left: its slot back. -/
theorem wp_wait_send (q : Cp) (c : Dev nD) {i k : ℕ} (hk : waits[k]? = some (q, false))
    {sem : DmaSem sig} (hsem : sem = semIx (q, false)) {sp sp' : Space} {s s' : Shape} {e e' : EltTy}
    {sm : Memref sig .tc sp s e} {dm : Memref sig .tc sp' s' e'} {h1 : _} {h2 : _} (hN : dm.view.dmaCredit = units q)
    {α : Type} {Q : α → sProp 𝕄} {κ : PUnit → Prog (TpuEff nD τ sig (Elt F) Λ₀ .tc) α} :
    iprop(env I K ∗ prot c i k ∗ flight c q)
      ⊢ iprop(((prot c i (k + 1) ∗ sendPay I q c) -∗ WP c (κ ⟨⟩) Q) -∗ WP c (.op (.waitDma2 sem sm dm h1 h2) κ) Q) := by
  subst hsem
  obtain ⟨hd, ht⟩ := waits_step hk
  unfold prot flight
  rw [hd, ht, every_cons]
  unfold coming
  simp only [if_true, if_false, Bool.false_eq_true]
  have hx : 0 + dm.view.dmaCredit = (sched I).expect (sendCell c q) 0 := by
    rw [Nat.zero_add, hN]; exact (expect_cp I c (q, false)).symm
  have hw : (levAts L lv : sProp 𝕄) ⊢ MayWait (c : Thread nD τ) (.dma (semIx (q, false))) () (owedFor c (issue.drop i)) :=
    mayWait_owed c _ 0 _ (lv_send c q ()).le (fun q' hq' => by omega)
  iintro ⟨#He, ⟨Hts, ⟨-, Hc⟩, Hz, ⟨%W, HO⟩⟩, ⟨Hcr, Hat⟩⟩ Hk
  iapply (Rounds.wp_wait_rest_token 𝒱₀ ER (sched I) (c : Thread nD τ) none (κ := K (c, some (q, false)))
    (wpE_waitDma2_eq 𝒱₀ (c : Thread nD τ) none Set.univ) (Set.mem_univ _) () (O := owedFor c (issue.drop i)) (W := W) (R := 0) (m := 0) (T := ∅)
    hx) $$ [Hcr HO Hat]
  · isplitr; · iapply (env_inv I K (c, some (q, false))); iexact He
    isplitl [Hcr]; · rw [hN]; iexact Hcr
    isplitl [HO]; · iexact HO
    isplitr
    · iapply (mayWait_owed c (.dma (semIx (q, false))) 0 (issue.drop i) (lv_send c q ()).le (fun q' hq' => by omega))
      iapply (env_lev I K); iexact He
    iexact Hat
  iintro ⟨HO, Hat, -, Hpay⟩
  ihave Hp := (Entails.of_eq (rest_send I c q)) $$ Hpay
  imod (Rounds.cell_close ER (sched I) (Set.mem_univ (K (c, some (q, false)))) (fun h => h) (R := 0 + 1) (duties_later I (sendCell c q))) $$ [Hat] with Hz'
  · isplitr; · iapply (env_inv I K (c, some (q, false))); iexact He
    iexact Hat
  iapply Hk
  isplitr [Hp]
  · isplitl [Hts]; · iexact Hts
    isplitl [Hc]; · iexact Hc
    isplitl [Hz Hz']
    · iapply every_concat; isplitl [Hz]; · iexact Hz
      iexact Hz'
    iexists _; iexact HO
  iexact Hp

end Steps

end Cert.KernelIdeal.Moe

end
-- ==== Proof.Moves.lean ====
/-
The steps that touch the buffers: a slot read, a slot written, a slot copied to a neighbour.
-/
module

public import proofs.«01_k».proof.Proof.Ops

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

/-! ## A slot of a buffer -/

section Slot

variable {n a b : ℕ} {e : EltTy} (m : Memref sig .tc .vmem ⟨3, ![n, a, b]⟩ e) (j : Fin n) {off : Fin 3 → ℕ} (hoff : off = ![j.val, 0, 0])
  (inb : ∀ x, off x + (![1, a, b] : Fin 3 → ℕ) x ≤ (![n, a, b] : Fin 3 → ℕ) x)

/-- The rectangle a load or a store names. -/
abbrev offRect : Rect ⟨3, ![n, a, b]⟩ := Rect.unit (s := ⟨3, ![n, a, b]⟩) off ![1, a, b] inb

omit [FloatOps F] in
include hoff in
theorem read_slot {f : m.view.ty.Contents (Elt F)} {g : Fin n → Vec F ⟨3, ![1, a, b]⟩ e} (hf : m.view.read (Elt F) f = stack g) :
    (m.view.slice (offRect inb)).read (Elt F) f = g j := by
  subst hoff
  funext x
  show m.view.read (Elt F) f ((slotRect n a b j).emb x) = g j x
  rw [hf, stack_emb]

variable (c : Dev nD)

include hoff in
/-- A load of a slot. -/
theorem wp_load_slot {α : Type} {Q : α → sProp 𝕄} {f : Buf (Elt F) (m.view.loc (c : Thread nD τ))} {g : Fin n → Vec F ⟨3, ![1, a, b]⟩ e} (hf : m.view.read (Elt F) f = stack g)
    {S : Finset (Idx (m.view.loc (c : Thread nD τ)))} (hS : (m.view.slice (slotRect n a b j)).set ⊆ S) {q : PosShare TreeShare}
    {hl : m.view.LoadsAt (offRect inb).toLoadRect} {κ : Vec F ⟨3, ![1, a, b]⟩ e → Prog (TpuEff nD τ sig (Elt F) Λ₀ .tc) α} :
    (m.view.loc (c : Thread nD τ) ↦[S]{q} f)
      ⊢ iprop(((m.view.loc (c : Thread nD τ) ↦[S]{q} f) -∗ WP c (κ (g j)) Q) -∗ WP c (.op (.load m (offRect inb).toLoadRect hl) κ) Q) := by
  have h := wp_load_rect (defs := defs₀ (F := F)) 𝒱₀ (c : Thread nD τ) none (Γ := []) Set.univ (Q := Q) (m := m) (r := offRect inb) (hl := hl) (k := κ)
    (S := S) (q := q) (f := f) (by subst hoff; exact hS)
  rwa [show (m.access (offRect inb)).read (Elt F) f = g j from read_slot m j hoff inb hf] at h

/-- A load of a slot whose contents do not matter. -/
theorem wp_load_any {α : Type} {Q : α → sProp 𝕄} {f : Buf (Elt F) (m.view.loc (c : Thread nD τ))}
    {S : Finset (Idx (m.view.loc (c : Thread nD τ)))} (hS : (m.view.slice (slotRect n a b j)).set ⊆ S) (hoff : off = ![j.val, 0, 0]) {q : PosShare TreeShare}
    {hl : m.view.LoadsAt (offRect inb).toLoadRect} {p : Prog (TpuEff nD τ sig (Elt F) Λ₀ .tc) α} :
    (m.view.loc (c : Thread nD τ) ↦[S]{q} f)
      ⊢ iprop(((m.view.loc (c : Thread nD τ) ↦[S]{q} f) -∗ WP c p Q) -∗ WP c (.op (.load m (offRect inb).toLoadRect hl) fun _ => p) Q) :=
  wp_load_rect (defs := defs₀ (F := F)) 𝒱₀ (c : Thread nD τ) none (Γ := []) Set.univ (Q := Q) (m := m) (r := offRect inb) (hl := hl) (k := fun _ => p)
    (S := S) (q := q) (f := f) (by subst hoff; exact hS)

include hoff in
/-- A store of a slot. -/
theorem wp_store_slot {α : Type} {Q : α → sProp 𝕄} {f : Buf (Elt F) (m.view.loc (c : Thread nD τ))} (f' : Buf (Elt F) (m.view.loc (c : Thread nD τ))) {g : Fin n → Vec F ⟨3, ![1, a, b]⟩ e}
    (hf : m.view.read (Elt F) f' = stack g) {w : Vec F ⟨3, ![1, a, b]⟩ e} (hw : w = g j)
    {S : Finset (Idx (m.view.loc (c : Thread nD τ)))} (hS : (m.view.slice (slotRect n a b j)).set = S)
    {hx : (m.access (offRect inb)).Stores Finset.univ} {hm : Finset.univ = Finset.univ ∨ ∀ x, (offRect inb).stride x = 1}
    {κ : PUnit → Prog (TpuEff nD τ sig (Elt F) Λ₀ .tc) α} :
    (m.view.loc (c : Thread nD τ) ↦[S]{fullShare} f)
      ⊢ iprop(((m.view.loc (c : Thread nD τ) ↦[S]{fullShare} f') -∗ WP c (κ ⟨⟩) Q) -∗ WP c (.op (.store m (offRect inb) w Finset.univ hx hm) κ) Q) := by
  have hS' : (m.access (offRect inb)).setOn Finset.univ = S := by subst hoff; exact hS
  have h := wp_store (defs := defs₀ (F := F)) 𝒱₀ (c : Thread nD τ) none (Γ := []) Set.univ (Q := Q) (m := m) (r := offRect inb) (w := w) (hx := hx) (hm := hm) (k := κ)
    (S := S) (f := f) hS'.subset
  have hr : w = (m.access (offRect inb)).read (Elt F) f' := hw.trans (read_slot m j hoff inb hf).symm
  have hc : ((m.access (offRect inb)).loc (c : Thread nD τ) ↦[S]{fullShare} ((m.access (offRect inb)).write (Elt F) f w Finset.univ) : sProp 𝕄)
      = (m.view.loc (c : Thread nD τ) ↦[S]{fullShare} f') :=
    pointsTo_congr fun i hi => by
      rw [hr, View.write_read_eq_piecewise, hS', Finset.piecewise_eq_of_mem _ _ _ hi]
  rwa [hc] at h

end Slot

/-- Writing through one view what another reads leaves, on the written elements, contents that read the same. -/
theorem landed {sp sp' : Space} {s : Shape} {e : EltTy} (sm : Memref sig .tc sp s e) (dm : Memref sig .tc sp' s e) (n : Dev nD)
    {fs : sm.view.ty.Contents (Elt F)} {fd fd' : Buf (Elt F) (dm.view.loc (n : Thread nD τ))} (h : sm.view.read (Elt F) fs = dm.view.read (Elt F) fd') :
    (dm.view.loc (n : Thread nD τ) ↦[dm.view.set]{fullShare} (dm.view.write (Elt F) fd (sm.view.read (Elt F) fs) Finset.univ) : sProp 𝕄)
      = (dm.view.loc (n : Thread nD τ) ↦[dm.view.set]{fullShare} fd') :=
  pointsTo_congr fun i hi => by
    rw [h, View.write_read_eq_piecewise]; exact Finset.piecewise_eq_of_mem _ _ _ hi

/-! ## Loads and stores of the buffers' slots -/

section Buffers

variable (I : Inputs F) (K : Dev nD × Option (Cp × Bool) → ℕ) (c : Dev nD)

/-- The device's expert weights, stored. -/
def eAt : sProp 𝕄 := ((c : Thread nD τ).loc cc0_scratch2) ↦{fullShare} (I.slabs c)

theorem ld_x {α : Type} {Q : α → sProp 𝕄} {off : Fin 3 → ℕ} {k : Fin 8} (h : off = ![(rel c k).val, 0, 0]) {q : PosShare TreeShare} {inb : _} {hl : _}
    {κ : Vec F S1x512x256 .bf16 → Prog (TpuEff nD τ sig (Elt F) Λ₀ .tc) α} :
    xAt c (rel c k) q I.toks
      ⊢ iprop((xAt c (rel c k) q I.toks -∗ WP c (κ (I.tok (devAt (rel c k)))) Q)
        -∗ WP c (.op (.load xM (Rect.unit (s := S8x512x256) off S1x512x256.size inb).toLoadRect hl) κ) Q) :=
  wp_load_slot xM (rel c k) h inb c (g := fun j => I.tok (devAt j)) (f := I.toks) rfl (View.set_slice_whole _ _).subset

theorem ld_w {α : Type} {Q : α → sProp 𝕄} {off : Fin 3 → ℕ} {k : Fin 8} (h : off = ![(rel c k).val, 0, 0]) {q : PosShare TreeShare} {inb : _} {hl : _}
    {κ : Vec F S1x512x32 .bf16 → Prog (TpuEff nD τ sig (Elt F) Λ₀ .tc) α} :
    wAt c (rel c k) q I.gates
      ⊢ iprop((wAt c (rel c k) q I.gates -∗ WP c (κ (I.gate (devAt (rel c k)))) Q)
        -∗ WP c (.op (.load wM (Rect.unit (s := S8x512x32) off S1x512x32.size inb).toLoadRect hl) κ) Q) :=
  wp_load_slot wM (rel c k) h inb c (g := fun j => I.gate (devAt j)) (f := I.gates) rfl (View.set_slice_whole _ _).subset

theorem ld_e {α : Type} {Q : α → sProp 𝕄} (k : Fin 4) {off : Fin 3 → ℕ} (h : off = ![k.val, 0, 0]) {inb : _} {hl : _}
    {κ : Vec F S1x256x512 .bf16 → Prog (TpuEff nD τ sig (Elt F) Λ₀ .tc) α} :
    eAt I c
      ⊢ iprop((eAt I c -∗ WP c (κ (I.slab c k)) Q)
        -∗ WP c (.op (.load eM (Rect.unit (s := S4x256x512) off S1x256x512.size inb).toLoadRect hl) κ) Q) :=
  wp_load_slot eM k h inb c (g := I.slab c) (f := I.slabs c) rfl (Finset.subset_univ _)

theorem ld_arrR {α : Type} {Q : α → sProp 𝕄} (s : Fin 7) {off : Fin 3 → ℕ} (h : off = ![s.val, 0, 0]) {inb : _} {hl : _}
    {κ : Vec F S1x512x256 .bf16 → Prog (TpuEff nD τ sig (Elt F) Λ₀ .tc) α} :
    arrRAt c s (I.arrR c)
      ⊢ iprop((arrRAt c s (I.arrR c) -∗ WP c (κ (I.sentR s.val (prv c))) Q)
        -∗ WP c (.op (.load arrRM (Rect.unit (s := S7x512x256) off S1x512x256.size inb).toLoadRect hl) κ) Q) :=
  wp_load_slot arrRM s h inb c (g := fun s : Fin 7 => I.sentR s.val (prv c)) (f := I.arrR c) rfl (View.set_slice_whole _ _).subset

/-- A send slot's contents loaded, to no use, and the slot stored. -/
theorem put_outR {α : Type} {Q : α → sProp 𝕄} (j : Fin 2) {off : Fin 3 → ℕ} (h : off = ![j.val, 0, 0]) {inb : _} {hl : _}
    {f : Vec F S2x512x256 .bf16} {w v : Vec F S1x512x256 .bf16} (hw : w = v) {hx : _} {hm : _}
    {κ : PUnit → Prog (TpuEff nD τ sig (Elt F) Λ₀ .tc) α} :
    outRAt c j f
      ⊢ iprop((outRAt c j (stack fun _ => v) -∗ WP c (κ ⟨⟩) Q)
        -∗ WP c (.op (.load outRM (Rect.unit (s := S2x512x256) off S1x512x256.size inb).toLoadRect hl) fun _ =>
          .op (.store outRM (Rect.unit (s := S2x512x256) off S1x512x256.size inb) w Finset.univ hx hm) κ) Q) := by
  unfold outRAt
  iintro H Hk
  have h1 := wp_load_any (Q := Q) outRM j inb c (hl := hl) (p := .op (.store outRM (Rect.unit (s := S2x512x256) off S1x512x256.size inb) w Finset.univ hx hm) κ)
    (f := f) (S := slot 2 512 256 j) (q := fullShare) (View.set_slice_whole _ _).subset h
  have h2 := wp_store_slot (Q := Q) outRM j h inb c (f := f) (hx := hx) (hm := hm) (κ := κ) (stack fun _ => v) (g := fun _ => v) rfl hw
    (S := slot 2 512 256 j) (View.set_slice_whole _ _)
  iapply h1 $$ H
  iintro H
  iapply h2 $$ H
  iexact Hk

theorem ld_arrL {α : Type} {Q : α → sProp 𝕄} (s : Fin 7) {off : Fin 3 → ℕ} (h : off = ![s.val, 0, 0]) {inb : _} {hl : _}
    {κ : Vec F S1x512x256 .bf16 → Prog (TpuEff nD τ sig (Elt F) Λ₀ .tc) α} :
    arrLAt c s (I.arrL c)
      ⊢ iprop((arrLAt c s (I.arrL c) -∗ WP c (κ (I.sentL s.val (nxt c))) Q)
        -∗ WP c (.op (.load arrLM (Rect.unit (s := S7x512x256) off S1x512x256.size inb).toLoadRect hl) κ) Q) :=
  wp_load_slot arrLM s h inb c (g := fun s : Fin 7 => I.sentL s.val (nxt c)) (f := I.arrL c) rfl (View.set_slice_whole _ _).subset

/-- A send slot's contents loaded, to no use, and the slot stored. -/
theorem put_outL {α : Type} {Q : α → sProp 𝕄} (j : Fin 2) {off : Fin 3 → ℕ} (h : off = ![j.val, 0, 0]) {inb : _} {hl : _}
    {f : Vec F S2x512x256 .bf16} {w v : Vec F S1x512x256 .bf16} (hw : w = v) {hx : _} {hm : _}
    {κ : PUnit → Prog (TpuEff nD τ sig (Elt F) Λ₀ .tc) α} :
    outLAt c j f
      ⊢ iprop((outLAt c j (stack fun _ => v) -∗ WP c (κ ⟨⟩) Q)
        -∗ WP c (.op (.load outLM (Rect.unit (s := S2x512x256) off S1x512x256.size inb).toLoadRect hl) fun _ =>
          .op (.store outLM (Rect.unit (s := S2x512x256) off S1x512x256.size inb) w Finset.univ hx hm) κ) Q) := by
  unfold outLAt
  iintro H Hk
  have h1 := wp_load_any (Q := Q) outLM j inb c (hl := hl) (p := .op (.store outLM (Rect.unit (s := S2x512x256) off S1x512x256.size inb) w Finset.univ hx hm) κ)
    (f := f) (S := slot 2 512 256 j) (q := fullShare) (View.set_slice_whole _ _).subset h
  have h2 := wp_store_slot (Q := Q) outLM j h inb c (f := f) (hx := hx) (hm := hm) (κ := κ) (stack fun _ => v) (g := fun _ => v) rfl hw
    (S := slot 2 512 256 j) (View.set_slice_whole _ _)
  iapply h1 $$ H
  iintro H
  iapply h2 $$ H
  iexact Hk

end Buffers

/-! ## The copies -/

section Copies

variable (I : Inputs F) (K : Dev nD × Option (Cp × Bool) → ℕ) (c n : Dev nD)

/-- Copy `q` issued, from one slot to another of the same size. -/
theorem send_slot {m m' a b : ℕ} {e : EltTy} {s' : Shape} (q : Cp) (M : Memref sig .tc .vmem ⟨3, ![m, a, b]⟩ e) (D : Memref sig .tc .vmem ⟨3, ![m', a, b]⟩ e)
    (j : Fin m) (j' : Fin m') {off off' : Fin 3 → ℕ} (h : off = ![j.val, 0, 0]) (h' : off' = ![j'.val, 0, 0]) (hn : n = dst q c)
    {i k : ℕ} (hi : issue.drop i = q :: issue.drop (i + 1)) {inb inb' : _} {hr hr' : _} {sq : (⟨3, ![1, a, b]⟩ : Shape).Squeezes s'} {hsc : _}
    {sS sem : DmaSem sig} (hsS : sS = semIx (q, false)) (hsem' : sem = semIx (q, true)) {h1 h2 h3 : _}
    (hN : ((D.slice (Rect.unit (s := ⟨3, ![m', a, b]⟩) off' ![1, a, b] inb') hr').squeeze s' sq).view.dmaCredit = units q)
    {f : Buf (Elt F) (M.view.loc (c : Thread nD τ))} {g : Fin m → Vec F ⟨3, ![1, a, b]⟩ e} (hf : M.view.read (Elt F) f = stack g)
    {f' : Buf (Elt F) (D.view.loc (n : Thread nD τ))} {g' : Fin m' → Vec F ⟨3, ![1, a, b]⟩ e} (hf' : D.view.read (Elt F) f' = stack g') (hg : g j = g' j')
    {sh : PosShare TreeShare} {P : sProp 𝕄} (hP : P ⊢ (M.view.loc (c : Thread nD τ) ↦[(M.view.slice (slotRect m a b j)).set]{sh} f))
    (hp : (M.view.loc (c : Thread nD τ) ↦[(M.view.slice (slotRect m a b j)).set]{sh} f : sProp 𝕄) ⊢ sendPay I q c)
    (hl : (landAt q n : sProp 𝕄) ⊢ iprop(∃ fd : Buf (Elt F) (D.view.loc (n : Thread nD τ)), D.view.loc (n : Thread nD τ) ↦[(D.view.slice (slotRect m' a b j')).set]{fullShare} fd))
    (hr'' : (D.view.loc (n : Thread nD τ) ↦[(D.view.slice (slotRect m' a b j')).set]{fullShare} f' : sProp 𝕄) ⊢ recvPay I q n)
    {α : Type} {Q : α → sProp 𝕄} {κ : PUnit → Prog (TpuEff nD τ sig (Elt F) Λ₀ .tc) α} :
    env I K ⊢ iprop(prot c i k -∗ P -∗ ((prot c (i + 1) k ∗ flight c q) -∗ WP c (κ ⟨⟩) Q)
      -∗ WP c (.op (.enqueueDma ((M.slice (Rect.unit (s := ⟨3, ![m, a, b]⟩) off ![1, a, b] inb) hr).squeeze s' sq)
          (.remote (Dev.tc n : Thread nD τ) ((D.slice (Rect.unit (s := ⟨3, ![m', a, b]⟩) off' ![1, a, b] inb') hr').squeeze s' sq) (.dma sS) hsc)
          (.dma sem) h1 h2 h3) κ) Q) := by
  subst h h'
  have hs : ((M.slice (Rect.unit (s := ⟨3, ![m, a, b]⟩) ![j.val, 0, 0] ![1, a, b] inb) hr).squeeze s' sq).view.set = (M.view.slice (slotRect m a b j)).set :=
    View.set_reshape _ _
  have hd : ((D.slice (Rect.unit (s := ⟨3, ![m', a, b]⟩) ![j'.val, 0, 0] ![1, a, b] inb') hr').squeeze s' sq).view.set = (D.view.slice (slotRect m' a b j')).set :=
    View.set_reshape _ _
  have hv : ((M.slice (Rect.unit (s := ⟨3, ![m, a, b]⟩) ![j.val, 0, 0] ![1, a, b] inb) hr).squeeze s' sq).view.read (Elt F) f
      = ((D.slice (Rect.unit (s := ⟨3, ![m', a, b]⟩) ![j'.val, 0, 0] ![1, a, b] inb') hr').squeeze s' sq).view.read (Elt F) f' := by
    have e1 := read_slot M j rfl inb hf
    have e2 := read_slot D j' rfl inb' hf'
    funext y
    exact (congrFun (e1.trans hg) (Shape.reshapeEquiv sq.numel_eq y)).trans (congrFun e2 (Shape.reshapeEquiv sq.numel_eq y)).symm
  have H := fun x y z => wp_send_cp I K q c n hn hi (congrArg SemLoc.dma hsS) (congrArg SemLoc.dma hsem') (sh := sh)
    (sm := (M.slice (Rect.unit (s := ⟨3, ![m, a, b]⟩) ![j.val, 0, 0] ![1, a, b] inb) hr).squeeze s' sq)
    (dm := (D.slice (Rect.unit (s := ⟨3, ![m', a, b]⟩) ![j'.val, 0, 0] ![1, a, b] inb') hr').squeeze s' sq)
    f hN (hsc := hsc) (hsrc := h1) (hdst := h2) (hsem := h3) (Q := Q) (κ := κ) (k := k) x y z
  have e3 := fun fd => landed ((M.slice (Rect.unit (s := ⟨3, ![m, a, b]⟩) ![j.val, 0, 0] ![1, a, b] inb) hr).squeeze s' sq)
    ((D.slice (Rect.unit (s := ⟨3, ![m', a, b]⟩) ![j'.val, 0, 0] ![1, a, b] inb') hr').squeeze s' sq) n (fd := fd) hv
  have e4 := fun fd => (Entails.of_eq (e3 fd)).trans (show _ ⊢ recvPay I q n by rw [hd]; exact hr'')
  have H' := H (by rw [hs]; exact hp) (by rw [hd]; exact hl) e4
  iintro #He Hp Hx Hk
  iapply H' $$ [Hp Hx] Hk
  isplitr; · iexact He
  isplitl [Hp]; · iexact Hp
  rw [hs]; iapply hP; iexact Hx

theorem send_xR {α : Type} {Q : α → sProp 𝕄} (s : Fin 4) {b : Fin 8} (hb : b = fR s) {sh : PosShare TreeShare} (hsh : sh = shR s) {off : Fin 3 → ℕ} (h : off = ![(rel c b).val, 0, 0]) (hn : n = dst (xR s) c)
    {i k : ℕ} (hi : issue.drop i = xR s :: issue.drop (i + 1)) {inb inb' : _} {hr hr' : _} {hsc : _}
    {sS sem : DmaSem sig} (hsS : sS = semIx (xR s, false)) (hsem' : sem = semIx (xR s, true)) {h1 h2 h3 : _}
    {κ : PUnit → Prog (TpuEff nD τ sig (Elt F) Λ₀ .tc) α} :
    env I K ⊢ iprop(prot c i k -∗ xAt c (rel c b) sh I.toks -∗ ((prot c (i + 1) k ∗ flight c (xR s)) -∗ WP c (κ ⟨⟩) Q)
      -∗ WP c (.op (.enqueueDma ((xM.slice (Rect.unit (s := S8x512x256) off S1x512x256.size inb) hr).squeeze S512x256 squeezes_S1x512x256_S512x256)
          (.remote (Dev.tc n : Thread nD τ) ((xM.slice (Rect.unit (s := S8x512x256) off S1x512x256.size inb') hr').squeeze S512x256 squeezes_S1x512x256_S512x256) (.dma sS) hsc)
          (.dma sem) h1 h2 h3) κ) Q) := by
  subst hb hsh
  have hl : rel n (kR (s.castLE (by decide))) = rel c (fR s) := by rw [hn]; exact rel_nxt c s
  have hs : (xM.view.slice (slotRect 8 512 256 (rel c (fR s)))).set = slot 8 512 256 (rel n (kR (s.castLE (by decide)))) := by rw [hl]; exact View.set_slice_whole _ _
  have hN : ((xM.slice (Rect.unit (s := S8x512x256) off S1x512x256.size inb') hr').squeeze S512x256 squeezes_S1x512x256_S512x256).view.dmaCredit = units (xR s) := rfl
  refine send_slot I K c n (xR s) xM xM (rel c (fR s)) (rel c (fR s)) h h hn hi hsS hsem' (hsc := hsc) (h1 := h1) (h2 := h2) (h3 := h3) hN (f := I.toks) (f' := I.toks) (g := fun j => I.tok (devAt j)) (g' := fun j => I.tok (devAt j))
    rfl rfl rfl (sh := shR s) ?_ ?_ ?_ ?_
  · rw [hs, hl]; exact .rfl
  · rw [hs, hl]; exact .rfl
  · rw [hs]; exact .rfl
  · rw [hs]; exact .rfl

theorem send_xL {α : Type} {Q : α → sProp 𝕄} (s : Fin 3) {b : Fin 8} (hb : b = fL s) {sh : PosShare TreeShare} (hsh : sh = shL s) {off : Fin 3 → ℕ} (h : off = ![(rel c b).val, 0, 0]) (hn : n = dst (xL s) c)
    {i k : ℕ} (hi : issue.drop i = xL s :: issue.drop (i + 1)) {inb inb' : _} {hr hr' : _} {hsc : _}
    {sS sem : DmaSem sig} (hsS : sS = semIx (xL s, false)) (hsem' : sem = semIx (xL s, true)) {h1 h2 h3 : _}
    {κ : PUnit → Prog (TpuEff nD τ sig (Elt F) Λ₀ .tc) α} :
    env I K ⊢ iprop(prot c i k -∗ xAt c (rel c b) sh I.toks -∗ ((prot c (i + 1) k ∗ flight c (xL s)) -∗ WP c (κ ⟨⟩) Q)
      -∗ WP c (.op (.enqueueDma ((xM.slice (Rect.unit (s := S8x512x256) off S1x512x256.size inb) hr).squeeze S512x256 squeezes_S1x512x256_S512x256)
          (.remote (Dev.tc n : Thread nD τ) ((xM.slice (Rect.unit (s := S8x512x256) off S1x512x256.size inb') hr').squeeze S512x256 squeezes_S1x512x256_S512x256) (.dma sS) hsc)
          (.dma sem) h1 h2 h3) κ) Q) := by
  subst hb hsh
  have hl : rel n (kL (s.castLE (by decide))) = rel c (fL s) := by rw [hn]; exact rel_prv c s
  have hs : (xM.view.slice (slotRect 8 512 256 (rel c (fL s)))).set = slot 8 512 256 (rel n (kL (s.castLE (by decide)))) := by rw [hl]; exact View.set_slice_whole _ _
  have hN : ((xM.slice (Rect.unit (s := S8x512x256) off S1x512x256.size inb') hr').squeeze S512x256 squeezes_S1x512x256_S512x256).view.dmaCredit = units (xL s) := rfl
  refine send_slot I K c n (xL s) xM xM (rel c (fL s)) (rel c (fL s)) h h hn hi hsS hsem' (hsc := hsc) (h1 := h1) (h2 := h2) (h3 := h3) hN (f := I.toks) (f' := I.toks) (g := fun j => I.tok (devAt j)) (g' := fun j => I.tok (devAt j))
    rfl rfl rfl (sh := shL s) ?_ ?_ ?_ ?_
  · rw [hs, hl]; exact .rfl
  · rw [hs, hl]; exact .rfl
  · rw [hs]; exact .rfl
  · rw [hs]; exact .rfl

theorem send_wR {α : Type} {Q : α → sProp 𝕄} (s : Fin 4) {b : Fin 8} (hb : b = fR s) {sh : PosShare TreeShare} (hsh : sh = shR s) {off : Fin 3 → ℕ} (h : off = ![(rel c b).val, 0, 0]) (hn : n = dst (wR s) c)
    {i k : ℕ} (hi : issue.drop i = wR s :: issue.drop (i + 1)) {inb inb' : _} {hr hr' : _} {hsc : _}
    {sS sem : DmaSem sig} (hsS : sS = semIx (wR s, false)) (hsem' : sem = semIx (wR s, true)) {h1 h2 h3 : _}
    {κ : PUnit → Prog (TpuEff nD τ sig (Elt F) Λ₀ .tc) α} :
    env I K ⊢ iprop(prot c i k -∗ wAt c (rel c b) sh I.gates -∗ ((prot c (i + 1) k ∗ flight c (wR s)) -∗ WP c (κ ⟨⟩) Q)
      -∗ WP c (.op (.enqueueDma ((wM.slice (Rect.unit (s := S8x512x32) off S1x512x32.size inb) hr).squeeze S512x32 squeezes_S1x512x32_S512x32)
          (.remote (Dev.tc n : Thread nD τ) ((wM.slice (Rect.unit (s := S8x512x32) off S1x512x32.size inb') hr').squeeze S512x32 squeezes_S1x512x32_S512x32) (.dma sS) hsc)
          (.dma sem) h1 h2 h3) κ) Q) := by
  subst hb hsh
  have hl : rel n (kR (s.castLE (by decide))) = rel c (fR s) := by rw [hn]; exact rel_nxt c s
  have hs : (wM.view.slice (slotRect 8 512 32 (rel c (fR s)))).set = slot 8 512 32 (rel n (kR (s.castLE (by decide)))) := by rw [hl]; exact View.set_slice_whole _ _
  have hN : ((wM.slice (Rect.unit (s := S8x512x32) off S1x512x32.size inb') hr').squeeze S512x32 squeezes_S1x512x32_S512x32).view.dmaCredit = units (wR s) := rfl
  refine send_slot I K c n (wR s) wM wM (rel c (fR s)) (rel c (fR s)) h h hn hi hsS hsem' (hsc := hsc) (h1 := h1) (h2 := h2) (h3 := h3) hN (f := I.gates) (f' := I.gates) (g := fun j => I.gate (devAt j)) (g' := fun j => I.gate (devAt j))
    rfl rfl rfl (sh := shR s) ?_ ?_ ?_ ?_
  · rw [hs, hl]; exact .rfl
  · rw [hs, hl]; exact .rfl
  · rw [hs]; exact .rfl
  · rw [hs]; exact .rfl

theorem send_wL {α : Type} {Q : α → sProp 𝕄} (s : Fin 3) {b : Fin 8} (hb : b = fL s) {sh : PosShare TreeShare} (hsh : sh = shL s) {off : Fin 3 → ℕ} (h : off = ![(rel c b).val, 0, 0]) (hn : n = dst (wL s) c)
    {i k : ℕ} (hi : issue.drop i = wL s :: issue.drop (i + 1)) {inb inb' : _} {hr hr' : _} {hsc : _}
    {sS sem : DmaSem sig} (hsS : sS = semIx (wL s, false)) (hsem' : sem = semIx (wL s, true)) {h1 h2 h3 : _}
    {κ : PUnit → Prog (TpuEff nD τ sig (Elt F) Λ₀ .tc) α} :
    env I K ⊢ iprop(prot c i k -∗ wAt c (rel c b) sh I.gates -∗ ((prot c (i + 1) k ∗ flight c (wL s)) -∗ WP c (κ ⟨⟩) Q)
      -∗ WP c (.op (.enqueueDma ((wM.slice (Rect.unit (s := S8x512x32) off S1x512x32.size inb) hr).squeeze S512x32 squeezes_S1x512x32_S512x32)
          (.remote (Dev.tc n : Thread nD τ) ((wM.slice (Rect.unit (s := S8x512x32) off S1x512x32.size inb') hr').squeeze S512x32 squeezes_S1x512x32_S512x32) (.dma sS) hsc)
          (.dma sem) h1 h2 h3) κ) Q) := by
  subst hb hsh
  have hl : rel n (kL (s.castLE (by decide))) = rel c (fL s) := by rw [hn]; exact rel_prv c s
  have hs : (wM.view.slice (slotRect 8 512 32 (rel c (fL s)))).set = slot 8 512 32 (rel n (kL (s.castLE (by decide)))) := by rw [hl]; exact View.set_slice_whole _ _
  have hN : ((wM.slice (Rect.unit (s := S8x512x32) off S1x512x32.size inb') hr').squeeze S512x32 squeezes_S1x512x32_S512x32).view.dmaCredit = units (wL s) := rfl
  refine send_slot I K c n (wL s) wM wM (rel c (fL s)) (rel c (fL s)) h h hn hi hsS hsem' (hsc := hsc) (h1 := h1) (h2 := h2) (h3 := h3) hN (f := I.gates) (f' := I.gates) (g := fun j => I.gate (devAt j)) (g' := fun j => I.gate (devAt j))
    rfl rfl rfl (sh := shL s) ?_ ?_ ?_ ?_
  · rw [hs, hl]; exact .rfl
  · rw [hs, hl]; exact .rfl
  · rw [hs]; exact .rfl
  · rw [hs]; exact .rfl

theorem send_sR {α : Type} {Q : α → sProp 𝕄} (s : Fin 7) {off off' : Fin 3 → ℕ} (h : off = ![(buf s).val, 0, 0]) (h' : off' = ![s.val, 0, 0]) (hn : n = nxt c)
    {i k : ℕ} (hi : issue.drop i = sR s :: issue.drop (i + 1)) {inb inb' : _} {hr hr' : _} {hsc : _}
    {sS sem : DmaSem sig} (hsS : sS = semIx (sR s, false)) (hsem' : sem = semIx (sR s, true)) {h1 h2 h3 : _}
    {κ : PUnit → Prog (TpuEff nD τ sig (Elt F) Λ₀ .tc) α} :
    env I K ⊢ iprop(prot c i k -∗ outRAt c (buf s) (stack fun _ => I.sentR s.val c) -∗ ((prot c (i + 1) k ∗ flight c (sR s)) -∗ WP c (κ ⟨⟩) Q)
      -∗ WP c (.op (.enqueueDma ((outRM.slice (Rect.unit (s := S2x512x256) off S1x512x256.size inb) hr).squeeze S512x256 squeezes_S1x512x256_S512x256)
          (.remote (Dev.tc n : Thread nD τ) ((arrRM.slice (Rect.unit (s := S7x512x256) off' S1x512x256.size inb') hr').squeeze S512x256 squeezes_S1x512x256_S512x256) (.dma sS) hsc)
          (.dma sem) h1 h2 h3) κ) Q) := by
  have hs : (outRM.view.slice (slotRect 2 512 256 (buf s))).set = slot 2 512 256 (buf s) := View.set_slice_whole _ _
  have hd : (arrRM.view.slice (slotRect 7 512 256 s)).set = slot 7 512 256 s := View.set_slice_whole _ _
  have hN : ((arrRM.slice (Rect.unit (s := S7x512x256) off' S1x512x256.size inb') hr').squeeze S512x256 squeezes_S1x512x256_S512x256).view.dmaCredit = units (sR s) := rfl
  refine send_slot I K c n (sR s) outRM arrRM (buf s) s h h' hn hi hsS hsem' (hsc := hsc) (h1 := h1) (h2 := h2) (h3 := h3) hN (f := stack fun _ => I.sentR s.val c) (f' := I.arrR n)
    (g := fun _ => I.sentR s.val c) (g' := fun s : Fin 7 => I.sentR s.val c) rfl (by rw [hn]; unfold Inputs.arrR; rw [prv_nxt]; rfl) rfl (sh := fullShare) ?_ ?_ ?_ ?_
  · rw [hs]; exact .rfl
  · rw [hs]; unfold sendPay outRAt; iintro H; iexists _; iexact H
  · rw [hd]; exact .rfl
  · rw [hd]; exact .rfl

theorem send_sL {α : Type} {Q : α → sProp 𝕄} (s : Fin 7) {off off' : Fin 3 → ℕ} (h : off = ![(buf s).val, 0, 0]) (h' : off' = ![s.val, 0, 0]) (hn : n = prv c)
    {i k : ℕ} (hi : issue.drop i = sL s :: issue.drop (i + 1)) {inb inb' : _} {hr hr' : _} {hsc : _}
    {sS sem : DmaSem sig} (hsS : sS = semIx (sL s, false)) (hsem' : sem = semIx (sL s, true)) {h1 h2 h3 : _}
    {κ : PUnit → Prog (TpuEff nD τ sig (Elt F) Λ₀ .tc) α} :
    env I K ⊢ iprop(prot c i k -∗ outLAt c (buf s) (stack fun _ => I.sentL s.val c) -∗ ((prot c (i + 1) k ∗ flight c (sL s)) -∗ WP c (κ ⟨⟩) Q)
      -∗ WP c (.op (.enqueueDma ((outLM.slice (Rect.unit (s := S2x512x256) off S1x512x256.size inb) hr).squeeze S512x256 squeezes_S1x512x256_S512x256)
          (.remote (Dev.tc n : Thread nD τ) ((arrLM.slice (Rect.unit (s := S7x512x256) off' S1x512x256.size inb') hr').squeeze S512x256 squeezes_S1x512x256_S512x256) (.dma sS) hsc)
          (.dma sem) h1 h2 h3) κ) Q) := by
  have hs : (outLM.view.slice (slotRect 2 512 256 (buf s))).set = slot 2 512 256 (buf s) := View.set_slice_whole _ _
  have hd : (arrLM.view.slice (slotRect 7 512 256 s)).set = slot 7 512 256 s := View.set_slice_whole _ _
  have hN : ((arrLM.slice (Rect.unit (s := S7x512x256) off' S1x512x256.size inb') hr').squeeze S512x256 squeezes_S1x512x256_S512x256).view.dmaCredit = units (sL s) := rfl
  refine send_slot I K c n (sL s) outLM arrLM (buf s) s h h' hn hi hsS hsem' (hsc := hsc) (h1 := h1) (h2 := h2) (h3 := h3) hN (f := stack fun _ => I.sentL s.val c) (f' := I.arrL n)
    (g := fun _ => I.sentL s.val c) (g' := fun s : Fin 7 => I.sentL s.val c) rfl (by rw [hn]; unfold Inputs.arrL; rw [nxt_prv]; rfl) rfl (sh := fullShare) ?_ ?_ ?_ ?_
  · rw [hs]; exact .rfl
  · rw [hs]; unfold sendPay outLAt; iintro H; iexists _; iexact H
  · rw [hd]; exact .rfl
  · rw [hd]; exact .rfl

/-- A copy of one slot of a buffer moves `N` units. -/
def Moves {m a b : ℕ} {s' : Shape} {e : EltTy} (M : Memref sig .tc .vmem ⟨3, ![m, a, b]⟩ e) (sq : (⟨3, ![1, a, b]⟩ : Shape).Squeezes s') (N : ℕ) : Prop :=
  ∀ (off : Fin 3 → ℕ) inb hr, ((M.slice (Rect.unit (s := ⟨3, ![m, a, b]⟩) off ![1, a, b] inb) hr).squeeze s' sq).view.dmaCredit = N

theorem moves_x : Moves xM squeezes_S1x512x256_S512x256 Nx := fun _ _ _ => rfl
theorem moves_w : Moves wM squeezes_S1x512x32_S512x32 Nw := fun _ _ _ => rfl
theorem moves_arrR : Moves arrRM squeezes_S1x512x256_S512x256 Nx := fun _ _ _ => rfl
theorem moves_arrL : Moves arrLM squeezes_S1x512x256_S512x256 Nx := fun _ _ _ => rfl
theorem moves_outR : Moves outRM squeezes_S1x512x256_S512x256 Nx := fun _ _ _ => rfl
theorem moves_outL : Moves outLM squeezes_S1x512x256_S512x256 Nx := fun _ _ _ => rfl

/-- A wait for copy `q` to arrive, and one for an own copy to have left, as steps. -/
theorem await {α : Type} {Q : α → sProp 𝕄} (q : Cp) {i k : ℕ} (hk : waits[k]? = some (q, true)) (hi : ∀ q' ∈ issue.drop i, ord q < ord q')
    {sem : DmaSem sig} (hsem : sem = semIx (q, true)) {m a b : ℕ} {sp : Space} {s s' : Shape} {e e' : EltTy}
    {sm : Memref sig .tc sp s e} (M : Memref sig .tc .vmem ⟨3, ![m, a, b]⟩ e') {sq : (⟨3, ![1, a, b]⟩ : Shape).Squeezes s'} (hN : Moves M sq (units q))
    {off : Fin 3 → ℕ} {inb hr h1 h2 : _}
    {P : sProp 𝕄} (hP : recvPay I q c = P)
    {κ : PUnit → Prog (TpuEff nD τ sig (Elt F) Λ₀ .tc) α} :
    env I K ⊢ iprop(prot c i k -∗ ((prot c i (k + 1) ∗ P) -∗ WP c (κ ⟨⟩) Q) -∗ WP c (.op (.waitDma2 sem sm ((M.slice (Rect.unit (s := ⟨3, ![m, a, b]⟩) off ![1, a, b] inb) hr).squeeze s' sq) h1 h2) κ) Q) := by
  subst hP
  iintro #He Hp Hk
  iapply (wp_wait_recv I K q c hk hi hsem (hN off inb hr)) $$ [Hp] Hk
  isplitr; · iexact He
  iexact Hp

theorem reclaim {α : Type} {Q : α → sProp 𝕄} (q : Cp) {i k : ℕ} (hk : waits[k]? = some (q, false))
    {sem : DmaSem sig} (hsem : sem = semIx (q, false)) {m a b : ℕ} {sp : Space} {s s' : Shape} {e e' : EltTy}
    {sm : Memref sig .tc sp s e} (M : Memref sig .tc .vmem ⟨3, ![m, a, b]⟩ e') {sq : (⟨3, ![1, a, b]⟩ : Shape).Squeezes s'} (hN : Moves M sq (units q))
    {off : Fin 3 → ℕ} {inb hr h1 h2 : _}
    {P : sProp 𝕄} (hP : sendPay I q c = P)
    {κ : PUnit → Prog (TpuEff nD τ sig (Elt F) Λ₀ .tc) α} :
    env I K ⊢ iprop(prot c i k -∗ flight c q -∗ ((prot c i (k + 1) ∗ P) -∗ WP c (κ ⟨⟩) Q) -∗ WP c (.op (.waitDma2 sem sm ((M.slice (Rect.unit (s := ⟨3, ![m, a, b]⟩) off ![1, a, b] inb) hr).squeeze s' sq) h1 h2) κ) Q) := by
  subst hP
  iintro #He Hp Hf Hk
  iapply (wp_wait_send I K q c hk hsem (hN off inb hr)) $$ [Hp Hf] Hk
  isplitr; · iexact He
  isplitl [Hp]; · iexact Hp
  iexact Hf

end Copies

end Cert.KernelIdeal.Moe

end
-- ==== Proof.Hops.lean ====
/-
One hop of a reduction: a block's tokens, its gating weights and the four experts loaded, the sum over the block formed,
what arrived added, the result stored in a send slot and sent on.
-/
module

public import proofs.«01_k».proof.Proof.Moves

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-- A block loaded: its tokens, its gating weights, and the four experts. -/
theorem ld_block {α : Type} {Q : α → sProp 𝕄} {k : Fin 8} {offx offw : Fin 3 → ℕ} (hx : offx = ![(rel c k).val, 0, 0]) (hw : offw = ![(rel c k).val, 0, 0])
    {q : PosShare TreeShare} {ix lx iw lw i0 l0 i1 l1 i2 l2 i3 l3 : _}
    {κ : Vec F S1x512x256 .bf16 → Vec F S1x512x32 .bf16 → Vec F S1x256x512 .bf16 → Vec F S1x256x512 .bf16 → Vec F S1x256x512 .bf16 → Vec F S1x256x512 .bf16 →
      Prog (TpuEff nD τ sig (Elt F) Λ₀ .tc) α} :
    eAt I c ⊢ iprop(xAt c (rel c k) q I.toks -∗ wAt c (rel c k) q I.gates
      -∗ ((eAt I c ∗ xAt c (rel c k) q I.toks ∗ wAt c (rel c k) q I.gates) -∗ WP c (κ (I.tok (devAt (rel c k))) (I.gate (devAt (rel c k))) (I.slab c 0) (I.slab c 1) (I.slab c 2) (I.slab c 3)) Q)
      -∗ WP c (.op (.load xM (Rect.unit (s := S8x512x256) offx S1x512x256.size ix).toLoadRect lx) fun x =>
          .op (.load wM (Rect.unit (s := S8x512x32) offw S1x512x32.size iw).toLoadRect lw) fun w =>
          .op (.load eM (Rect.unit (s := S4x256x512) ![0, 0, 0] S1x256x512.size i0).toLoadRect l0) fun e0 =>
          .op (.load eM (Rect.unit (s := S4x256x512) ![1, 0, 0] S1x256x512.size i1).toLoadRect l1) fun e1 =>
          .op (.load eM (Rect.unit (s := S4x256x512) ![2, 0, 0] S1x256x512.size i2).toLoadRect l2) fun e2 =>
          .op (.load eM (Rect.unit (s := S4x256x512) ![3, 0, 0] S1x256x512.size i3).toLoadRect l3) fun e3 => κ x w e0 e1 e2 e3) Q) := by
  iintro He Hx Hw Hk
  iapply (ld_x I c hx) $$ Hx; iintro Hx
  iapply (ld_w I c hw) $$ Hw; iintro Hw
  iapply (ld_e I c 0 rfl) $$ He; iintro He
  iapply (ld_e I c 1 rfl) $$ He; iintro He
  iapply (ld_e I c 2 rfl) $$ He; iintro He
  iapply (ld_e I c 3 rfl) $$ He; iintro He
  iapply Hk
  isplitl [He]; · iexact He
  isplitl [Hx]; · iexact Hx
  iexact Hw

theorem sentR_later (s s' : Fin 7) (h : s.val = s'.val + 1) : I.sentR s.val c = firstHop (withArrived (I.partR c (kR s)) (I.sentR s'.val (prv c))) := by
  have : (Fin.ofNat 8 (6 - s'.val)) = kR s := by apply Fin.ext; show (6 - s'.val) % 8 = 7 - s.val; omega
  rw [h, ← this]; rfl
theorem sentL_later (s s' : Fin 7) (h : s.val = s'.val + 1) : I.sentL s.val c = firstHop (withArrived (I.partL c (kL s)) (I.sentL s'.val (nxt c))) := by
  have : (Fin.ofNat 8 (s'.val + 2)) = kL s := by apply Fin.ext; show (s'.val + 2) % 8 = s.val + 1; omega
  rw [h, ← this]; rfl

/-- The first hop to the right: nothing has arrived yet. -/
theorem firstR {α : Type} {Q : α → sProp 𝕄} {b : Fin 8} (hb : b = kR 0) {o : Fin 2} (hob : o = buf 0) (n : Dev nD) (hn : n = nxt c) {offx offw off off' : Fin 3 → ℕ}
    (hx : offx = ![(rel c b).val, 0, 0]) (hw : offw = ![(rel c b).val, 0, 0]) (ho : off = ![(buf 0).val, 0, 0]) (ho' : off' = ![(0 : Fin 7).val, 0, 0])
    {i k : ℕ} (hi : issue.drop i = sR 0 :: issue.drop (i + 1))
    {pay : Vec F S1x512x256 .bf16 → Vec F S1x512x32 .bf16 → Vec F S1x256x512 .bf16 → Vec F S1x256x512 .bf16 → Vec F S1x256x512 .bf16 → Vec F S1x256x512 .bf16 → Vec F S1x512x256 .bf16}
    (hpay : ∀ x w e0 e1 e2 e3, pay x w e0 e1 e2 e3 = firstHop (sumR c x w e0 e1 e2 e3))
    {sS sem : DmaSem sig} (hsS : sS = semIx (sR 0, false)) (hsem : sem = semIx (sR 0, true)) {q : PosShare TreeShare} {f : Vec F S2x512x256 .bf16}
    {ix lx iw lw i0 l0 i1 l1 i2 l2 i3 l3 i5 l5 i6 l6 h6 is2 hs2 is3 hs3 hsc h1 h2 h3 : _}
    {κ : PUnit → Prog (TpuEff nD τ sig (Elt F) Λ₀ .tc) α} :
    env I K ⊢ iprop(prot c i k -∗ eAt I c -∗ xAt c (rel c b) q I.toks -∗ wAt c (rel c b) q I.gates -∗ outRAt c o f
      -∗ ((prot c (i + 1) k ∗ flight c (sR 0) ∗ eAt I c ∗ xAt c (rel c b) q I.toks ∗ wAt c (rel c b) q I.gates) -∗ WP c (κ ⟨⟩) Q)
      -∗ WP c (.op (.load xM (Rect.unit (s := S8x512x256) offx S1x512x256.size ix).toLoadRect lx) fun x =>
          .op (.load wM (Rect.unit (s := S8x512x32) offw S1x512x32.size iw).toLoadRect lw) fun w =>
          .op (.load eM (Rect.unit (s := S4x256x512) ![0, 0, 0] S1x256x512.size i0).toLoadRect l0) fun e0 =>
          .op (.load eM (Rect.unit (s := S4x256x512) ![1, 0, 0] S1x256x512.size i1).toLoadRect l1) fun e1 =>
          .op (.load eM (Rect.unit (s := S4x256x512) ![2, 0, 0] S1x256x512.size i2).toLoadRect l2) fun e2 =>
          .op (.load eM (Rect.unit (s := S4x256x512) ![3, 0, 0] S1x256x512.size i3).toLoadRect l3) fun e3 =>
          .op (.load outRM (Rect.unit (s := S2x512x256) off S1x512x256.size i5).toLoadRect l5) fun _ =>
          .op (.store outRM (Rect.unit (s := S2x512x256) off S1x512x256.size i6) (pay x w e0 e1 e2 e3) Finset.univ l6 h6) fun _ =>
          .op (.enqueueDma ((outRM.slice (Rect.unit (s := S2x512x256) off S1x512x256.size is2) hs2).squeeze S512x256 squeezes_S1x512x256_S512x256)
            (.remote (Dev.tc n : Thread nD τ) ((arrRM.slice (Rect.unit (s := S7x512x256) off' S1x512x256.size is3) hs3).squeeze S512x256 squeezes_S1x512x256_S512x256) (.dma sS) hsc)
            (.dma sem) h1 h2 h3) κ) Q) := by
  subst hb hob
  iintro #He Hp HE Hx Hw Ho Hk
  iapply (ld_block I c hx hw) $$ HE Hx Hw; iintro ⟨HE, Hx, Hw⟩
  iapply (put_outR c (buf 0) ho (v := I.sentR (0 : Fin 7).val c) (hpay _ _ _ _ _ _)) $$ Ho; iintro Ho
  iapply (send_sR I K c n 0 ho ho' hn hi hsS hsem) $$ He Hp Ho; iintro ⟨Hp, Hf⟩
  iapply Hk
  isplitl [Hp]; · iexact Hp
  isplitl [Hf]; · iexact Hf
  isplitl [HE]; · iexact HE
  isplitl [Hx]; · iexact Hx
  iexact Hw

/-- A later hop to the right. -/
theorem laterR {α : Type} {Q : α → sProp 𝕄} (s s' : Fin 7) {b : Fin 8} (hb : b = kR s) {o : Fin 2} (hob : o = buf s) (hss : s.val = s'.val + 1) (n : Dev nD) (hn : n = nxt c) {offx offw off off' off'' : Fin 3 → ℕ}
    (hx : offx = ![(rel c b).val, 0, 0]) (hw : offw = ![(rel c b).val, 0, 0]) (ho : off = ![(buf s).val, 0, 0]) (ho' : off' = ![s.val, 0, 0]) (ho'' : off'' = ![s'.val, 0, 0])
    {i k : ℕ} (hk : waits[k]? = some (sR s', true)) (ha : ∀ q' ∈ issue.drop i, ord (sR s') < ord q') (hi : issue.drop i = sR s :: issue.drop (i + 1))
    {pay : Vec F S1x512x256 .bf16 → Vec F S1x512x32 .bf16 → Vec F S1x256x512 .bf16 → Vec F S1x256x512 .bf16 → Vec F S1x256x512 .bf16 → Vec F S1x256x512 .bf16 → Vec F S1x512x256 .bf16 → Vec F S1x512x256 .bf16}
    (hpay : ∀ x w e0 e1 e2 e3 r, pay x w e0 e1 e2 e3 r = firstHop (withArrived (sumR c x w e0 e1 e2 e3) r))
    {sS sem semw : DmaSem sig} (hsS : sS = semIx (sR s, false)) (hsem : sem = semIx (sR s, true)) (hsemw : semw = semIx (sR s', true))
    {sp : Space} {sh : Shape} {e : EltTy} {sm : Memref sig .tc sp sh e} {off3 : Fin 3 → ℕ} {i7 h7 h4 h5 : _}
    {q : PosShare TreeShare} {f : Vec F S2x512x256 .bf16}
    {ix lx iw lw i0 l0 i1 l1 i2 l2 i3 l3 i4 l4 i5 l5 i6 l6 h6 is2 hs2 is3 hs3 hsc h1 h2 h3 : _}
    {κ : PUnit → Prog (TpuEff nD τ sig (Elt F) Λ₀ .tc) α} :
    env I K ⊢ iprop(prot c i k -∗ eAt I c -∗ xAt c (rel c b) q I.toks -∗ wAt c (rel c b) q I.gates -∗ outRAt c o f
      -∗ ((prot c (i + 1) (k + 1) ∗ flight c (sR s) ∗ eAt I c ∗ xAt c (rel c b) q I.toks ∗ wAt c (rel c b) q I.gates ∗ arrRAt c s' (I.arrR c)) -∗ WP c (κ ⟨⟩) Q)
      -∗ WP c (.op (.load xM (Rect.unit (s := S8x512x256) offx S1x512x256.size ix).toLoadRect lx) fun x =>
          .op (.load wM (Rect.unit (s := S8x512x32) offw S1x512x32.size iw).toLoadRect lw) fun w =>
          .op (.load eM (Rect.unit (s := S4x256x512) ![0, 0, 0] S1x256x512.size i0).toLoadRect l0) fun e0 =>
          .op (.load eM (Rect.unit (s := S4x256x512) ![1, 0, 0] S1x256x512.size i1).toLoadRect l1) fun e1 =>
          .op (.load eM (Rect.unit (s := S4x256x512) ![2, 0, 0] S1x256x512.size i2).toLoadRect l2) fun e2 =>
          .op (.load eM (Rect.unit (s := S4x256x512) ![3, 0, 0] S1x256x512.size i3).toLoadRect l3) fun e3 =>
          .op (.waitDma2 semw sm ((arrRM.slice (Rect.unit (s := S7x512x256) off3 S1x512x256.size i7) h7).squeeze S512x256 squeezes_S1x512x256_S512x256) h4 h5) fun _ =>
          .op (.load arrRM (Rect.unit (s := S7x512x256) off'' S1x512x256.size i4).toLoadRect l4) fun r =>
          .op (.load outRM (Rect.unit (s := S2x512x256) off S1x512x256.size i5).toLoadRect l5) fun _ =>
          .op (.store outRM (Rect.unit (s := S2x512x256) off S1x512x256.size i6) (pay x w e0 e1 e2 e3 r) Finset.univ l6 h6) fun _ =>
          .op (.enqueueDma ((outRM.slice (Rect.unit (s := S2x512x256) off S1x512x256.size is2) hs2).squeeze S512x256 squeezes_S1x512x256_S512x256)
            (.remote (Dev.tc n : Thread nD τ) ((arrRM.slice (Rect.unit (s := S7x512x256) off' S1x512x256.size is3) hs3).squeeze S512x256 squeezes_S1x512x256_S512x256) (.dma sS) hsc)
            (.dma sem) h1 h2 h3) κ) Q) := by
  subst hb hob
  iintro #He Hp HE Hx Hw Ho Hk
  iapply (ld_block I c hx hw) $$ HE Hx Hw; iintro ⟨HE, Hx, Hw⟩
  iapply (await I K c (sR s') hk ha hsemw arrRM moves_arrR (P := arrRAt c s' (I.arrR c)) rfl) $$ He Hp; iintro ⟨Hp, Ha⟩
  iapply (ld_arrR I c s' ho'') $$ Ha; iintro Ha
  iapply (put_outR c (buf s) ho (v := I.sentR s.val c) ((hpay _ _ _ _ _ _ _).trans (sentR_later I c s s' hss).symm)) $$ Ho; iintro Ho
  iapply (send_sR I K c n s ho ho' hn hi hsS hsem) $$ He Hp Ho; iintro ⟨Hp, Hf⟩
  iapply Hk
  isplitl [Hp]; · iexact Hp
  isplitl [Hf]; · iexact Hf
  isplitl [HE]; · iexact HE
  isplitl [Hx]; · iexact Hx
  isplitl [Hw]; · iexact Hw
  iexact Ha

/-- The first hop to the left: nothing has arrived yet. -/
theorem firstL {α : Type} {Q : α → sProp 𝕄} {b : Fin 8} (hb : b = kL 0) {o : Fin 2} (hob : o = buf 0) (n : Dev nD) (hn : n = prv c) {offx offw off off' : Fin 3 → ℕ}
    (hx : offx = ![(rel c b).val, 0, 0]) (hw : offw = ![(rel c b).val, 0, 0]) (ho : off = ![(buf 0).val, 0, 0]) (ho' : off' = ![(0 : Fin 7).val, 0, 0])
    {i k : ℕ} (hi : issue.drop i = sL 0 :: issue.drop (i + 1))
    {pay : Vec F S1x512x256 .bf16 → Vec F S1x512x32 .bf16 → Vec F S1x256x512 .bf16 → Vec F S1x256x512 .bf16 → Vec F S1x256x512 .bf16 → Vec F S1x256x512 .bf16 → Vec F S1x512x256 .bf16}
    (hpay : ∀ x w e0 e1 e2 e3, pay x w e0 e1 e2 e3 = firstHop (sumL c x w e0 e1 e2 e3))
    {sS sem : DmaSem sig} (hsS : sS = semIx (sL 0, false)) (hsem : sem = semIx (sL 0, true)) {q : PosShare TreeShare} {f : Vec F S2x512x256 .bf16}
    {ix lx iw lw i0 l0 i1 l1 i2 l2 i3 l3 i5 l5 i6 l6 h6 is2 hs2 is3 hs3 hsc h1 h2 h3 : _}
    {κ : PUnit → Prog (TpuEff nD τ sig (Elt F) Λ₀ .tc) α} :
    env I K ⊢ iprop(prot c i k -∗ eAt I c -∗ xAt c (rel c b) q I.toks -∗ wAt c (rel c b) q I.gates -∗ outLAt c o f
      -∗ ((prot c (i + 1) k ∗ flight c (sL 0) ∗ eAt I c ∗ xAt c (rel c b) q I.toks ∗ wAt c (rel c b) q I.gates) -∗ WP c (κ ⟨⟩) Q)
      -∗ WP c (.op (.load xM (Rect.unit (s := S8x512x256) offx S1x512x256.size ix).toLoadRect lx) fun x =>
          .op (.load wM (Rect.unit (s := S8x512x32) offw S1x512x32.size iw).toLoadRect lw) fun w =>
          .op (.load eM (Rect.unit (s := S4x256x512) ![0, 0, 0] S1x256x512.size i0).toLoadRect l0) fun e0 =>
          .op (.load eM (Rect.unit (s := S4x256x512) ![1, 0, 0] S1x256x512.size i1).toLoadRect l1) fun e1 =>
          .op (.load eM (Rect.unit (s := S4x256x512) ![2, 0, 0] S1x256x512.size i2).toLoadRect l2) fun e2 =>
          .op (.load eM (Rect.unit (s := S4x256x512) ![3, 0, 0] S1x256x512.size i3).toLoadRect l3) fun e3 =>
          .op (.load outLM (Rect.unit (s := S2x512x256) off S1x512x256.size i5).toLoadRect l5) fun _ =>
          .op (.store outLM (Rect.unit (s := S2x512x256) off S1x512x256.size i6) (pay x w e0 e1 e2 e3) Finset.univ l6 h6) fun _ =>
          .op (.enqueueDma ((outLM.slice (Rect.unit (s := S2x512x256) off S1x512x256.size is2) hs2).squeeze S512x256 squeezes_S1x512x256_S512x256)
            (.remote (Dev.tc n : Thread nD τ) ((arrLM.slice (Rect.unit (s := S7x512x256) off' S1x512x256.size is3) hs3).squeeze S512x256 squeezes_S1x512x256_S512x256) (.dma sS) hsc)
            (.dma sem) h1 h2 h3) κ) Q) := by
  subst hb hob
  iintro #He Hp HE Hx Hw Ho Hk
  iapply (ld_block I c hx hw) $$ HE Hx Hw; iintro ⟨HE, Hx, Hw⟩
  iapply (put_outL c (buf 0) ho (v := I.sentL (0 : Fin 7).val c) (hpay _ _ _ _ _ _)) $$ Ho; iintro Ho
  iapply (send_sL I K c n 0 ho ho' hn hi hsS hsem) $$ He Hp Ho; iintro ⟨Hp, Hf⟩
  iapply Hk
  isplitl [Hp]; · iexact Hp
  isplitl [Hf]; · iexact Hf
  isplitl [HE]; · iexact HE
  isplitl [Hx]; · iexact Hx
  iexact Hw

/-- A later hop to the left. -/
theorem laterL {α : Type} {Q : α → sProp 𝕄} (s s' : Fin 7) {b : Fin 8} (hb : b = kL s) {o : Fin 2} (hob : o = buf s) (hss : s.val = s'.val + 1) (n : Dev nD) (hn : n = prv c) {offx offw off off' off'' : Fin 3 → ℕ}
    (hx : offx = ![(rel c b).val, 0, 0]) (hw : offw = ![(rel c b).val, 0, 0]) (ho : off = ![(buf s).val, 0, 0]) (ho' : off' = ![s.val, 0, 0]) (ho'' : off'' = ![s'.val, 0, 0])
    {i k : ℕ} (hk : waits[k]? = some (sL s', true)) (ha : ∀ q' ∈ issue.drop i, ord (sL s') < ord q') (hi : issue.drop i = sL s :: issue.drop (i + 1))
    {pay : Vec F S1x512x256 .bf16 → Vec F S1x512x32 .bf16 → Vec F S1x256x512 .bf16 → Vec F S1x256x512 .bf16 → Vec F S1x256x512 .bf16 → Vec F S1x256x512 .bf16 → Vec F S1x512x256 .bf16 → Vec F S1x512x256 .bf16}
    (hpay : ∀ x w e0 e1 e2 e3 r, pay x w e0 e1 e2 e3 r = firstHop (withArrived (sumL c x w e0 e1 e2 e3) r))
    {sS sem semw : DmaSem sig} (hsS : sS = semIx (sL s, false)) (hsem : sem = semIx (sL s, true)) (hsemw : semw = semIx (sL s', true))
    {sp : Space} {sh : Shape} {e : EltTy} {sm : Memref sig .tc sp sh e} {off3 : Fin 3 → ℕ} {i7 h7 h4 h5 : _}
    {q : PosShare TreeShare} {f : Vec F S2x512x256 .bf16}
    {ix lx iw lw i0 l0 i1 l1 i2 l2 i3 l3 i4 l4 i5 l5 i6 l6 h6 is2 hs2 is3 hs3 hsc h1 h2 h3 : _}
    {κ : PUnit → Prog (TpuEff nD τ sig (Elt F) Λ₀ .tc) α} :
    env I K ⊢ iprop(prot c i k -∗ eAt I c -∗ xAt c (rel c b) q I.toks -∗ wAt c (rel c b) q I.gates -∗ outLAt c o f
      -∗ ((prot c (i + 1) (k + 1) ∗ flight c (sL s) ∗ eAt I c ∗ xAt c (rel c b) q I.toks ∗ wAt c (rel c b) q I.gates ∗ arrLAt c s' (I.arrL c)) -∗ WP c (κ ⟨⟩) Q)
      -∗ WP c (.op (.load xM (Rect.unit (s := S8x512x256) offx S1x512x256.size ix).toLoadRect lx) fun x =>
          .op (.load wM (Rect.unit (s := S8x512x32) offw S1x512x32.size iw).toLoadRect lw) fun w =>
          .op (.load eM (Rect.unit (s := S4x256x512) ![0, 0, 0] S1x256x512.size i0).toLoadRect l0) fun e0 =>
          .op (.load eM (Rect.unit (s := S4x256x512) ![1, 0, 0] S1x256x512.size i1).toLoadRect l1) fun e1 =>
          .op (.load eM (Rect.unit (s := S4x256x512) ![2, 0, 0] S1x256x512.size i2).toLoadRect l2) fun e2 =>
          .op (.load eM (Rect.unit (s := S4x256x512) ![3, 0, 0] S1x256x512.size i3).toLoadRect l3) fun e3 =>
          .op (.waitDma2 semw sm ((arrLM.slice (Rect.unit (s := S7x512x256) off3 S1x512x256.size i7) h7).squeeze S512x256 squeezes_S1x512x256_S512x256) h4 h5) fun _ =>
          .op (.load arrLM (Rect.unit (s := S7x512x256) off'' S1x512x256.size i4).toLoadRect l4) fun r =>
          .op (.load outLM (Rect.unit (s := S2x512x256) off S1x512x256.size i5).toLoadRect l5) fun _ =>
          .op (.store outLM (Rect.unit (s := S2x512x256) off S1x512x256.size i6) (pay x w e0 e1 e2 e3 r) Finset.univ l6 h6) fun _ =>
          .op (.enqueueDma ((outLM.slice (Rect.unit (s := S2x512x256) off S1x512x256.size is2) hs2).squeeze S512x256 squeezes_S1x512x256_S512x256)
            (.remote (Dev.tc n : Thread nD τ) ((arrLM.slice (Rect.unit (s := S7x512x256) off' S1x512x256.size is3) hs3).squeeze S512x256 squeezes_S1x512x256_S512x256) (.dma sS) hsc)
            (.dma sem) h1 h2 h3) κ) Q) := by
  subst hb hob
  iintro #He Hp HE Hx Hw Ho Hk
  iapply (ld_block I c hx hw) $$ HE Hx Hw; iintro ⟨HE, Hx, Hw⟩
  iapply (await I K c (sL s') hk ha hsemw arrLM moves_arrL (P := arrLAt c s' (I.arrL c)) rfl) $$ He Hp; iintro ⟨Hp, Ha⟩
  iapply (ld_arrL I c s' ho'') $$ Ha; iintro Ha
  iapply (put_outL c (buf s) ho (v := I.sentL s.val c) ((hpay _ _ _ _ _ _ _).trans (sentL_later I c s s' hss).symm)) $$ Ho; iintro Ho
  iapply (send_sL I K c n s ho ho' hn hi hsS hsem) $$ He Hp Ho; iintro ⟨Hp, Hf⟩
  iapply Hk
  isplitl [Hp]; · iexact Hp
  isplitl [Hf]; · iexact Hf
  isplitl [HE]; · iexact HE
  isplitl [Hx]; · iexact Hx
  isplitl [Hw]; · iexact Hw
  iexact Ha

end Cert.KernelIdeal.Moe

end
-- ==== Proof.Handshake.lean ====
/-
The start of a device's run: it tells both neighbours that it has started, handing each the slots that neighbour's copies
land in, and waits for both. The buffers are cut into their slots here, and put together again at the end.
-/
module

public import proofs.«01_k».proof.Proof.Moves

@[expose] public section

set_option maxRecDepth 4000

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-! ## Buffers and their slots -/

/-- The slots of the buffers, listed. -/
abbrev places : List (Fin 8) := [0, 1, 2, 3, 4, 5, 6, 7]
abbrev hops : List (Fin 7) := [0, 1, 2, 3, 4, 5, 6]
abbrev bufs : List (Fin 2) := [0, 1]

omit [FloatOps F] in
/-- The token buffer is its eight slots, numbered from the device's own. -/
theorem x_slots (f : Vec F S8x512x256 .bf16) :
    ((c : Thread nD τ).loc cc0_scratch0 ↦{fullShare} f : sProp 𝕄) = every (fun k => xAt c (rel c k) fullShare f) places :=
  (Ring.pointsTo_blocks (ℓ := (c : Thread nD τ).loc cc0_scratch0) (slot 8 512 256) slot_disjoint slot_cover f).trans
    ((bigSep_univ_equiv (relEquiv c) (fun j => xAt c j fullShare f)).trans (every_univ (fun k => xAt c (rel c k) fullShare f) places (by decide) (by decide)).symm)

omit [FloatOps F] in
/-- The slots, each at some contents, are the buffer at some contents. -/
theorem x_join (f₀ : Vec F S8x512x256 .bf16) : every (fun k => iprop(∃ f : Vec F S8x512x256 .bf16, xAt c (rel c k) fullShare f)) places
    ⊢ (iprop(∃ f : Vec F S8x512x256 .bf16, (c : Thread nD τ).loc cc0_scratch0 ↦{fullShare} f) : sProp 𝕄) := by
  have e := (bigSep_univ_equiv (relEquiv c) (fun j => iprop(∃ f : Vec F S8x512x256 .bf16, (xAt c j fullShare f : sProp 𝕄)))).trans
    (every_univ (fun k => iprop(∃ f : Vec F S8x512x256 .bf16, xAt c (rel c k) fullShare f)) places (by decide) (by decide)).symm
  exact (Entails.of_eq e.symm).trans
    (Ring.pointsTo_blocks_join_exists (ℓ := (c : Thread nD τ).loc cc0_scratch0) (slot 8 512 256) slot_disjoint slot_cover f₀)

omit [FloatOps F] in
/-- So is the buffer of gating weights. -/
theorem w_slots (f : Vec F S8x512x32 .bf16) :
    ((c : Thread nD τ).loc cc0_scratch1 ↦{fullShare} f : sProp 𝕄) = every (fun k => wAt c (rel c k) fullShare f) places :=
  (Ring.pointsTo_blocks (ℓ := (c : Thread nD τ).loc cc0_scratch1) (slot 8 512 32) slot_disjoint slot_cover f).trans
    ((bigSep_univ_equiv (relEquiv c) (fun j => wAt c j fullShare f)).trans (every_univ (fun k => wAt c (rel c k) fullShare f) places (by decide) (by decide)).symm)

omit [FloatOps F] in
/-- The slots, each at some contents, are the buffer at some contents. -/
theorem w_join (f₀ : Vec F S8x512x32 .bf16) : every (fun k => iprop(∃ f : Vec F S8x512x32 .bf16, wAt c (rel c k) fullShare f)) places
    ⊢ (iprop(∃ f : Vec F S8x512x32 .bf16, (c : Thread nD τ).loc cc0_scratch1 ↦{fullShare} f) : sProp 𝕄) := by
  have e := (bigSep_univ_equiv (relEquiv c) (fun j => iprop(∃ f : Vec F S8x512x32 .bf16, (wAt c j fullShare f : sProp 𝕄)))).trans
    (every_univ (fun k => iprop(∃ f : Vec F S8x512x32 .bf16, wAt c (rel c k) fullShare f)) places (by decide) (by decide)).symm
  exact (Entails.of_eq e.symm).trans
    (Ring.pointsTo_blocks_join_exists (ℓ := (c : Thread nD τ).loc cc0_scratch1) (slot 8 512 32) slot_disjoint slot_cover f₀)

omit [FloatOps F] in
theorem arrR_slots (f : Vec F S7x512x256 .bf16) :
    ((c : Thread nD τ).loc cc0_scratch3 ↦{fullShare} f : sProp 𝕄) = every (fun s => arrRAt c s f) hops :=
  (Ring.pointsTo_blocks (ℓ := (c : Thread nD τ).loc cc0_scratch3) (slot 7 512 256) slot_disjoint slot_cover f).trans
    (every_univ (fun s => arrRAt c s f) hops (by decide) (by decide)).symm

omit [FloatOps F] in
theorem arrR_join (f₀ : Vec F S7x512x256 .bf16) : every (fun s => iprop(∃ f : Vec F S7x512x256 .bf16, arrRAt c s f)) hops
    ⊢ (iprop(∃ f : Vec F S7x512x256 .bf16, (c : Thread nD τ).loc cc0_scratch3 ↦{fullShare} f) : sProp 𝕄) :=
  (Entails.of_eq (every_univ (fun s => iprop(∃ f : Vec F S7x512x256 .bf16, arrRAt c s f)) hops (by decide) (by decide))).trans
    (Ring.pointsTo_blocks_join_exists (ℓ := (c : Thread nD τ).loc cc0_scratch3) (slot 7 512 256) slot_disjoint slot_cover f₀)

omit [FloatOps F] in
theorem arrL_slots (f : Vec F S7x512x256 .bf16) :
    ((c : Thread nD τ).loc cc0_scratch4 ↦{fullShare} f : sProp 𝕄) = every (fun s => arrLAt c s f) hops :=
  (Ring.pointsTo_blocks (ℓ := (c : Thread nD τ).loc cc0_scratch4) (slot 7 512 256) slot_disjoint slot_cover f).trans
    (every_univ (fun s => arrLAt c s f) hops (by decide) (by decide)).symm

omit [FloatOps F] in
theorem arrL_join (f₀ : Vec F S7x512x256 .bf16) : every (fun s => iprop(∃ f : Vec F S7x512x256 .bf16, arrLAt c s f)) hops
    ⊢ (iprop(∃ f : Vec F S7x512x256 .bf16, (c : Thread nD τ).loc cc0_scratch4 ↦{fullShare} f) : sProp 𝕄) :=
  (Entails.of_eq (every_univ (fun s => iprop(∃ f : Vec F S7x512x256 .bf16, arrLAt c s f)) hops (by decide) (by decide))).trans
    (Ring.pointsTo_blocks_join_exists (ℓ := (c : Thread nD τ).loc cc0_scratch4) (slot 7 512 256) slot_disjoint slot_cover f₀)

omit [FloatOps F] in
theorem outR_slots (f : Vec F S2x512x256 .bf16) :
    ((c : Thread nD τ).loc cc0_scratch5 ↦{fullShare} f : sProp 𝕄) = every (fun s => outRAt c s f) bufs :=
  (Ring.pointsTo_blocks (ℓ := (c : Thread nD τ).loc cc0_scratch5) (slot 2 512 256) slot_disjoint slot_cover f).trans
    (every_univ (fun s => outRAt c s f) bufs (by decide) (by decide)).symm

omit [FloatOps F] in
theorem outR_join (f₀ : Vec F S2x512x256 .bf16) : every (fun s => iprop(∃ f : Vec F S2x512x256 .bf16, outRAt c s f)) bufs
    ⊢ (iprop(∃ f : Vec F S2x512x256 .bf16, (c : Thread nD τ).loc cc0_scratch5 ↦{fullShare} f) : sProp 𝕄) :=
  (Entails.of_eq (every_univ (fun s => iprop(∃ f : Vec F S2x512x256 .bf16, outRAt c s f)) bufs (by decide) (by decide))).trans
    (Ring.pointsTo_blocks_join_exists (ℓ := (c : Thread nD τ).loc cc0_scratch5) (slot 2 512 256) slot_disjoint slot_cover f₀)

omit [FloatOps F] in
theorem outL_slots (f : Vec F S2x512x256 .bf16) :
    ((c : Thread nD τ).loc cc0_scratch6 ↦{fullShare} f : sProp 𝕄) = every (fun s => outLAt c s f) bufs :=
  (Ring.pointsTo_blocks (ℓ := (c : Thread nD τ).loc cc0_scratch6) (slot 2 512 256) slot_disjoint slot_cover f).trans
    (every_univ (fun s => outLAt c s f) bufs (by decide) (by decide)).symm

omit [FloatOps F] in
theorem outL_join (f₀ : Vec F S2x512x256 .bf16) : every (fun s => iprop(∃ f : Vec F S2x512x256 .bf16, outLAt c s f)) bufs
    ⊢ (iprop(∃ f : Vec F S2x512x256 .bf16, (c : Thread nD τ).loc cc0_scratch6 ↦{fullShare} f) : sProp 𝕄) :=
  (Entails.of_eq (every_univ (fun s => iprop(∃ f : Vec F S2x512x256 .bf16, outLAt c s f)) bufs (by decide) (by decide))).trans
    (Ring.pointsTo_blocks_join_exists (ℓ := (c : Thread nD τ).loc cc0_scratch6) (slot 2 512 256) slot_disjoint slot_cover f₀)

/-! ## The handshake -/

/-- What a device holds of a copy before the handshake: both duties' tokens and the position on its send cell. -/
def stub (c : Dev nD) (q : Cp) : sProp 𝕄 :=
  iprop(dutyTok ER (sendCell c q) 0 false ∗ dutyTok ER (recvCell (dst q c) q) 0 false ∗ atPos ER (sendCell c q) 0 ∅ 0)

/-- What a device starts with. -/
def hello (c : Dev nD) : sProp 𝕄 :=
  iprop(atPos ER (barCell c) 0 ∅ 0 ∗ cred (tallyAt (barCell c) () 2) ∗ dutyTok ER (barCell (prv c)) 0 true ∗ dutyTok ER (barCell (nxt c)) 0 false
    ∗ (bigSep Finset.univ fun q => stub c q) ∗ (bigSep Finset.univ fun p => coming c p))

/-- The copies that go right, and those that go left. -/
def rights : List Cp := [xR 0, xR 1, xR 2, xR 3, wR 0, wR 1, wR 2, wR 3, sR 0, sR 1, sR 2, sR 3, sR 4, sR 5, sR 6]
def lefts : List Cp := [xL 0, xL 1, xL 2, wL 0, wL 1, wL 2, sL 0, sL 1, sL 2, sL 3, sL 4, sL 5, sL 6]

omit [FloatOps F] in
/-- The slots handed to the device before. -/
theorem barPay_prv : (barPay true (prv c) : sProp 𝕄) = every (fun q => landAt q c) rights := by
  unfold barPay
  rw [every_eq _ _ (by decide), if_pos rfl, nxt_prv, show (Finset.univ.filter fun q : Cp => q.right = true) = rights.toFinset by decide]
omit [FloatOps F] in
/-- The slots handed to the device after. -/
theorem barPay_nxt : (barPay false (nxt c) : sProp 𝕄) = every (fun q => landAt q c) lefts := by
  unfold barPay
  rw [every_eq _ _ (by decide), if_neg (by decide), prv_nxt, show (Finset.univ.filter fun q : Cp => q.right = false) = lefts.toFinset by decide]

omit [FloatOps F] in
/-- What the two neighbours hand over completes what a device needs for each of its copies. -/
theorem tickets_intro :
    iprop((bigSep Finset.univ fun q => stub c q) ∗ barPay false c ∗ barPay true c) ⊢ (every (ticket c) issue : sProp 𝕄) := by
  rw [every_univ _ _ issue_nodup mem_issue]
  have eR : (bigSep (Finset.univ.filter fun q : Cp => q.right = true) fun q => (landAt q (dst q c) : sProp 𝕄)) = barPay true c :=
    bigSep_congr fun q hq => by unfold dst; rw [(Finset.mem_filter.mp hq).2]
  have eL : (bigSep (Finset.univ.filter fun q : Cp => q.right = false) fun q => (landAt q (dst q c) : sProp 𝕄)) = barPay false c :=
    bigSep_congr fun q hq => by unfold dst; rw [(Finset.mem_filter.mp hq).2]
  have hf : (Finset.univ.filter fun q : Cp => ¬ q.right = true) = Finset.univ.filter fun q : Cp => q.right = false :=
    Finset.filter_congr fun q _ => by rw [Bool.not_eq_true]
  have e : (bigSep Finset.univ fun q : Cp => (landAt q (dst q c) : sProp 𝕄)) = iprop(barPay true c ∗ barPay false c) := by
    rw [bigSep_filter_split Finset.univ (fun q : Cp => q.right = true), hf, eR, eL]
    rfl
  iintro ⟨Hs, Hf, Ht⟩
  ihave Hl := (Entails.of_eq e.symm) $$ [Hf Ht]
  · isplitl [Ht] <;> iassumption
  have ht : ∀ q, iprop(stub c q ∗ landAt q (dst q c)) ⊢ (ticket c q : sProp 𝕄) := fun q => by
    unfold stub ticket
    iintro ⟨⟨H1, H2, H3⟩, H4⟩
    isplitl [H1]; · iexact H1
    isplitl [H2]; · iexact H2
    isplitl [H4] <;> iassumption
  have j : iprop((bigSep Finset.univ fun q => stub c q) ∗ bigSep Finset.univ fun q : Cp => (landAt q (dst q c) : sProp 𝕄))
      ⊢ bigSep Finset.univ fun q => ticket c q :=
    (Entails.of_eq (bigSep_sep _ _ _).symm).trans (bigSep_mono fun q _ => ht q)
  iapply j
  isplitl [Hs] <;> iassumption

/-- Both neighbours told, both heard from. -/
theorem handshake {α : Type} {Q : α → sProp 𝕄} (n₁ n₂ : Dev nD) (h₁ : n₁ = prv c) (h₂ : n₂ = nxt c) {W : Waits sig Unit}
    {κ : PUnit → Prog (TpuEff nD τ sig (Elt F) Λ₀ .tc) α} :
    env I K ⊢ iprop(hello c -∗ owes (c : Thread nD τ) (owed₀ c) W
      -∗ every (fun q => landAt q c) rights -∗ every (fun q => landAt q c) lefts
      -∗ ((prot c 0 0 ∗ semVal (barCell c) 0) -∗ WP c (κ ⟨⟩) Q)
      -∗ WP c (.op (.semSignal (n₁ : Thread nD τ) barS 1) fun _ => .op (.semSignal (n₂ : Thread nD τ) barS 1) fun _ => .op (.semWait barS 2) κ) Q) := by
  subst h₁ h₂
  unfold hello
  iintro #He ⟨Hat, Hcr, HtP, HtN, Hst, Hco⟩ HO HlR HlL Hk
  iapply (Rounds.wp_signal 𝒱₀ ER (sched I) (c : Thread nD τ) none (dst := (prv c : Thread nD τ)) (κ := K (prv c, none))
      (d := true) (by rw [duties_bar]; exact Finset.mem_univ _) ((amount_bar I (prv c) true).trans (by decide)) () (owed₁ c) rfl)
    $$ [HO HtP HlR]
  · isplitr; · iapply (env_inv I K (prv c, none)); iexact He
    isplitl [HO]; · iexact HO
    isplitl [HtP]; · iexact HtP
    isplitl [HlR]; · rw [payload_bar, barPay_prv]; iexact HlR
    iapply (env_reached I K (prv c, none)); iexact He
  iintro HO
  iapply (Rounds.wp_signal 𝒱₀ ER (sched I) (c : Thread nD τ) none (dst := (nxt c : Thread nD τ)) (κ := K (nxt c, none))
      (d := false) (by rw [duties_bar]; exact Finset.mem_univ _) ((amount_bar I (nxt c) false).trans (by decide)) () (owedFor c issue) rfl)
    $$ [HO HtN HlL]
  · isplitr; · iapply (env_inv I K (nxt c, none)); iexact He
    isplitl [HO]; · iexact HO
    isplitl [HtN]; · iexact HtN
    isplitl [HlL]; · rw [payload_bar, barPay_nxt]; iexact HlL
    iapply (env_reached I K (nxt c, none)); iexact He
  iintro HO
  iapply (Rounds.wp_wait_rest_token 𝒱₀ ER (sched I) (c : Thread nD τ) none (κ := K (c, none))
      (wpE_semWait_eq 𝒱₀ (c : Thread nD τ) none Set.univ) (Set.mem_univ _) () (O := owedFor c issue) (W := W) (R := 0) (m := 0) (T := ∅)
      (expect_bar I c).symm) $$ [Hcr HO Hat]
  · isplitr; · iapply (env_inv I K (c, none)); iexact He
    isplitl [Hcr]; · iexact Hcr
    isplitl [HO]; · iexact HO
    isplitr
    · iapply (mayWait_owed c (.reg barS) 1 issue (lv_bar c ()).le (fun q _ => by omega))
      iapply (env_lev I K); iexact He
    iexact Hat
  iintro ⟨HO, Hat, -, Hpay⟩
  ihave Hp := (Entails.of_eq (rest_bar I c)) $$ Hpay
  imod (Rounds.cell_close ER (sched I) (Set.mem_univ (K (c, none))) (fun h => h) (R := 0 + 1) (duties_later I (barCell c))) $$ [Hat] with Hz
  · isplitr; · iapply (env_inv I K (c, none)); iexact He
    iexact Hat
  iapply Hk
  isplitr [Hz]
  · unfold prot
    isplitl [Hst Hp]
    · iapply (tickets_intro c)
      isplitl [Hst] <;> iassumption
    isplitl [Hco]
    · have e := every_univ (coming (F := F) c) waits waits_nodup mem_waits
      ihave Hco := (Entails.of_eq e.symm) $$ Hco
      iexact Hco
    isplitr
    · unfold every; iempintro
    iexists _; iexact HO
  iexact Hz

end Cert.KernelIdeal.Moe

end
-- ==== Proof.Flat.lean ====
/-
The kernel's body as one flat sequence of operations: the printed text calls its parts one after another, and here each
call is replaced by the part's own text.
-/
module

public import proofs.«01_k».proof.Proof.Gen.KernelIdeal.Skeleton
public import Idealize.ShloMosaic.Lib.Tactic.OpenCalls
public import Idealize.ShloMosaic.Lib.Tactic.Stretches

@[expose] public section

namespace Cert.KernelIdeal.Moe

open Idealize.ShloMosaic Cert.KernelIdeal Cert.KernelIdeal.Gen

set_option maxHeartbeats 0
set_option maxRecDepth 20000
set_option open_calls.check false in
open_calls flat := cc0_body [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79]

end Cert.KernelIdeal.Moe

end
-- ==== Proof.Cut.lean ====
/-
The flat body cut into stretches, each a hop of the exchange or the set-up before it: a stretch's proof then needs only
its own operations.
-/
module

public import proofs.«01_k».proof.Proof.Flat

@[expose] public section

noncomputable section

namespace Cert.KernelIdeal.Moe

open Idealize.ShloMosaic Idealize.ShloMosaic.TcCoe

cut_chain st := flat at 51, 85, 121, 153, 179, 203, 227

end Cert.KernelIdeal.Moe
-- ==== Proof.Open.lean ====
/-
The first step of a device's run: the handshake, its own tokens, gating weights and experts stored, both directions' first
copies, the first blocks to arrive, and the first hop of each reduction.
-/
module

public import proofs.«01_k».proof.Proof.Hops
public import proofs.«01_k».proof.Proof.Handshake
public import proofs.«01_k».proof.Proof.Cut

@[expose] public section

set_option maxRecDepth 4000

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-! ## The staged inputs -/

/-- The four inputs of a device, as staged. -/
def ins : sProp 𝕄 :=
  iprop((((c : Thread nD τ).loc cc0_stg0_0) ↦{fullShare} (I.x c)) ∗ (((c : Thread nD τ).loc cc0_stg1_0) ↦{fullShare} (I.r c))
    ∗ (((c : Thread nD τ).loc cc0_stg2_0) ↦{fullShare} (I.idx c)) ∗ (((c : Thread nD τ).loc cc0_stg3_0) ↦{fullShare} (I.e c)))

/-- The tokens, the router weights and the two columns of choices loaded. -/
theorem ld_ins {α : Type} {Q : α → sProp 𝕄} {i0 l0 i1 l1 i2 l2 i3 l3 : _}
    {κ : Vec F S512x256 .bf16 → Vec F S256x32 .bf16 → Vec F S512x1 .i32 → Vec F S512x1 .i32 → Prog (TpuEff nD τ sig (Elt F) Λ₀ .tc) α} :
    ins I c ⊢ iprop((ins I c -∗ WP c (κ (I.x c) (I.r c) (I.choice0 c) (I.choice1 c)) Q)
      -∗ WP c (.op (.load (Memref.whole cc0_stg0_0 : Memref sig .tc .vmem S512x256 .bf16) (Rect.unit (s := S512x256) ![0, 0] S512x256.size i0).toLoadRect l0) fun x =>
          .op (.load (Memref.whole cc0_stg1_0 : Memref sig .tc .vmem S256x32 .bf16) (Rect.unit (s := S256x32) ![0, 0] S256x32.size i1).toLoadRect l1) fun r =>
          .op (.load (Memref.whole cc0_stg2_0 : Memref sig .tc .vmem S512x2 .i32) (Rect.unit (s := S512x2) ![0, 0] S512x1.size i2).toLoadRect l2) fun a =>
          .op (.load (Memref.whole cc0_stg2_0 : Memref sig .tc .vmem S512x2 .i32) (Rect.unit (s := S512x2) ![0, 1] S512x1.size i3).toLoadRect l3) fun b => κ x r a b) Q) := by
  have hz : (![0, 0] : Fin 2 → ℕ) = fun _ => 0 := by funext a; fin_cases a <;> rfl
  have e0 : (Memref.whole cc0_stg0_0 : Memref sig .tc .vmem S512x256 .bf16).view.readAt (Elt F) (Rect.unit (s := S512x256) ![0, 0] S512x256.size i0).toLoadRect (I.x c) = I.x c :=
    Memref.readAt_unit_zero (Elt F) cc0_stg0_0 hz i0 (I.x c)
  have e1 : (Memref.whole cc0_stg1_0 : Memref sig .tc .vmem S256x32 .bf16).view.readAt (Elt F) (Rect.unit (s := S256x32) ![0, 0] S256x32.size i1).toLoadRect (I.r c) = I.r c :=
    Memref.readAt_unit_zero (Elt F) cc0_stg1_0 hz i1 (I.r c)
  unfold ins
  iintro ⟨H0, H1, H2, H3⟩ Hk
  iapply (wp_load 𝒱₀ (c : Thread nD τ) none Set.univ (m := (Memref.whole cc0_stg0_0 : Memref sig .tc .vmem S512x256 .bf16)) (S := Finset.univ) (f := I.x c) (Finset.subset_univ _)) $$ H0
  iintro H0
  iapply (wp_load 𝒱₀ (c : Thread nD τ) none Set.univ (m := (Memref.whole cc0_stg1_0 : Memref sig .tc .vmem S256x32 .bf16)) (S := Finset.univ) (f := I.r c) (Finset.subset_univ _)) $$ H1
  iintro H1
  iapply (wp_load 𝒱₀ (c : Thread nD τ) none Set.univ (m := (Memref.whole cc0_stg2_0 : Memref sig .tc .vmem S512x2 .i32)) (S := Finset.univ) (f := I.idx c) (Finset.subset_univ _)) $$ H2
  iintro H2
  iapply (wp_load 𝒱₀ (c : Thread nD τ) none Set.univ (m := (Memref.whole cc0_stg2_0 : Memref sig .tc .vmem S512x2 .i32)) (S := Finset.univ) (f := I.idx c) (Finset.subset_univ _)) $$ H2
  iintro H2
  rw [e0, e1]
  iapply Hk
  isplitl [H0]; · iexact H0
  isplitl [H1]; · iexact H1
  isplitl [H2]; · iexact H2
  iexact H3

/-! ## The device's own block stored -/

/-- The own tokens' slot loaded, to no use, and stored. -/
theorem put_x {α : Type} {Q : α → sProp 𝕄} {off : Fin 3 → ℕ} (h : off = ![(rel c 0).val, 0, 0]) {i l i' hx hm : _}
    {f : Vec F S8x512x256 .bf16} {κ : PUnit → Prog (TpuEff nD τ sig (Elt F) Λ₀ .tc) α} :
    xAt c (rel c 0) fullShare f ⊢ iprop((xAt c (rel c 0) fullShare I.toks -∗ WP c (κ ⟨⟩) Q)
      -∗ WP c (.op (.load xM (Rect.unit (s := S8x512x256) off S1x512x256.size i).toLoadRect l) fun _ =>
          .op (.store xM (Rect.unit (s := S8x512x256) off S1x512x256.size i') (k0_pay7 (k0_pay1 (I.x c))) Finset.univ hx hm) κ) Q) := by
  unfold xAt
  iintro H Hk
  have hw : k0_pay7 (k0_pay1 (I.x c)) = I.tok (devAt (rel c 0)) := by rw [devAt_rel_zero]; rfl
  have h1 := wp_load_any (Q := Q) xM (rel c 0) i c (hl := l) (p := .op (.store xM (Rect.unit (s := S8x512x256) off S1x512x256.size i') (k0_pay7 (k0_pay1 (I.x c))) Finset.univ hx hm) κ)
    (f := f) (S := slot 8 512 256 (rel c 0)) (q := fullShare) (View.set_slice_whole _ _).subset h
  have h2 := wp_store_slot (Q := Q) xM (rel c 0) h i' c (f := f) (hx := hx) (hm := hm) (κ := κ) I.toks (g := fun j => I.tok (devAt j)) rfl hw
    (S := slot 8 512 256 (rel c 0)) (View.set_slice_whole _ _)
  iapply h1 $$ H
  iintro H
  iapply h2 $$ H
  iexact Hk

/-- The own gating weights' slot loaded, to no use, and stored. -/
theorem put_w {α : Type} {Q : α → sProp 𝕄} {off : Fin 3 → ℕ} (h : off = ![(rel c 0).val, 0, 0]) {i l i' hx hm : _}
    {f : Vec F S8x512x32 .bf16} {w : Vec F S1x512x32 .bf16} (hw : w = I.gate c) {κ : PUnit → Prog (TpuEff nD τ sig (Elt F) Λ₀ .tc) α} :
    wAt c (rel c 0) fullShare f ⊢ iprop((wAt c (rel c 0) fullShare I.gates -∗ WP c (κ ⟨⟩) Q)
      -∗ WP c (.op (.load wM (Rect.unit (s := S8x512x32) off S1x512x32.size i).toLoadRect l) fun _ =>
          .op (.store wM (Rect.unit (s := S8x512x32) off S1x512x32.size i') w Finset.univ hx hm) κ) Q) := by
  unfold wAt
  iintro H Hk
  have hw' : w = I.gate (devAt (rel c 0)) := by rw [devAt_rel_zero]; exact hw
  have h1 := wp_load_any (Q := Q) wM (rel c 0) i c (hl := l) (p := .op (.store wM (Rect.unit (s := S8x512x32) off S1x512x32.size i') w Finset.univ hx hm) κ)
    (f := f) (S := slot 8 512 32 (rel c 0)) (q := fullShare) (View.set_slice_whole _ _).subset h
  have h2 := wp_store_slot (Q := Q) wM (rel c 0) h i' c (f := f) (hx := hx) (hm := hm) (κ := κ) I.gates (g := fun j => I.gate (devAt j)) rfl hw'
    (S := slot 8 512 32 (rel c 0)) (View.set_slice_whole _ _)
  iapply h1 $$ H
  iintro H
  iapply h2 $$ H
  iexact Hk

/-- One expert's slot. -/
def eSlot (k : Fin 4) (f : Vec F S4x256x512 .bf16) : sProp 𝕄 := ((c : Thread nD τ).loc cc0_scratch2) ↦[slot 4 256 512 k]{fullShare} f

omit [FloatOps F] in
theorem e_slots (f : Vec F S4x256x512 .bf16) :
    ((c : Thread nD τ).loc cc0_scratch2 ↦{fullShare} f : sProp 𝕄) = every (fun k => eSlot c k f) [0, 1, 2, 3] :=
  (Ring.pointsTo_blocks (ℓ := (c : Thread nD τ).loc cc0_scratch2) (slot 4 256 512) slot_disjoint slot_cover f).trans
    (every_univ (fun k => eSlot c k f) [0, 1, 2, 3] (by decide) (by decide)).symm

/-- One expert loaded from the staged weights, its slot loaded, to no use, and stored. -/
theorem put_e {α : Type} {Q : α → sProp 𝕄} (k : Fin 4) {off : Fin 3 → ℕ} (h : off = ![k.val, 0, 0]) {i l i' hx hm i0 l0 : _}
    {f : Vec F S4x256x512 .bf16} {pay : Vec F S1x256x512 .bf16 → Vec F S1x256x512 .bf16} (hp : ∀ v, pay v = k0_pay9 v)
    {κ : PUnit → Prog (TpuEff nD τ sig (Elt F) Λ₀ .tc) α} :
    ins I c ⊢ iprop(eSlot c k f -∗ ((ins I c ∗ eSlot c k (I.slabs c)) -∗ WP c (κ ⟨⟩) Q)
      -∗ WP c (.op (.load (Memref.whole cc0_stg3_0 : Memref sig .tc .vmem S4x256x512 .bf16) (Rect.unit (s := S4x256x512) off S1x256x512.size i0).toLoadRect l0) fun v =>
          .op (.load eM (Rect.unit (s := S4x256x512) off S1x256x512.size i).toLoadRect l) fun _ =>
          .op (.store eM (Rect.unit (s := S4x256x512) off S1x256x512.size i') (pay v) Finset.univ hx hm) κ) Q) := by
  subst h
  unfold ins eSlot
  iintro ⟨H0, H1, H2, H3⟩ H Hk
  have hw : pay ((Memref.whole cc0_stg3_0 : Memref sig .tc .vmem S4x256x512 .bf16).view.readAt (Elt F) (Rect.unit (s := S4x256x512) ![k.val, 0, 0] S1x256x512.size i0).toLoadRect (I.e c))
      = I.slab c k := hp _
  have h1 := fun w => wp_load_any (Q := Q) eM k i c (hl := l) (p := .op (.store eM (Rect.unit (s := S4x256x512) ![k.val, 0, 0] S1x256x512.size i') (pay w) Finset.univ hx hm) κ)
    (f := f) (S := slot 4 256 512 k) (q := fullShare) (View.set_slice_whole _ _).subset rfl
  have h2 := fun w hw => wp_store_slot (Q := Q) eM k rfl i' c (f := f) (w := w) (hx := hx) (hm := hm) (κ := κ) (I.slabs c) (g := I.slab c) rfl hw
    (S := slot 4 256 512 k) (View.set_slice_whole _ _)
  iapply (wp_load 𝒱₀ (c : Thread nD τ) none Set.univ (m := (Memref.whole cc0_stg3_0 : Memref sig .tc .vmem S4x256x512 .bf16)) (S := Finset.univ) (f := I.e c) (Finset.subset_univ _)) $$ H3
  iintro H3
  iapply (h1 _) $$ H
  iintro H
  iapply (h2 _ hw) $$ H
  iintro H
  iapply Hk
  isplitr [H]
  · isplitl [H0]; · iexact H0
    isplitl [H1]; · iexact H1
    isplitl [H2]; · iexact H2
    iexact H3
  iexact H

omit [FloatOps F] in
/-- A slot of tokens lent in two halves. -/
theorem x_halves (j : Fin 8) (f : Vec F S8x512x256 .bf16) :
    (xAt c j fullShare f : sProp 𝕄) ⊣⊢ iprop(xAt c j fullShare.left f ∗ xAt c j fullShare.right f) :=
  pointsTo_share (PosShare.mem_left_op_right fullShare)
omit [FloatOps F] in
theorem w_halves (j : Fin 8) (f : Vec F S8x512x32 .bf16) :
    (wAt c j fullShare f : sProp 𝕄) ⊣⊢ iprop(wAt c j fullShare.left f ∗ wAt c j fullShare.right f) :=
  pointsTo_share (PosShare.mem_left_op_right fullShare)

/-- The first step. -/
theorem step0 {α : Type} {Q : α → sProp 𝕄} {hx hw he hr hl ho ho' : _} {W : Waits sig Unit}
    {fx : Vec F S8x512x256 .bf16} {fw : Vec F S8x512x32 .bf16} {fe : Vec F S4x256x512 .bf16} {fR fL : Vec F S2x512x256 .bf16} {κ : Dev nD → Prog (TpuEff nD τ sig (Elt F) Λ₀ .tc) α} :
    env I K ⊢ iprop(hello c -∗ owes (c : Thread nD τ) (owed₀ c) W
      -∗ every (fun q => landAt q c) rights -∗ every (fun q => landAt q c) lefts
      -∗ ins I c -∗ xAt c (rel c 0) fullShare fx -∗ wAt c (rel c 0) fullShare fw -∗ ((c : Thread nD τ).loc cc0_scratch2 ↦{fullShare} fe)
      -∗ outRAt c 0 fR -∗ outLAt c 0 fL
      -∗ ((prot c 6 4 ∗ semVal (barCell c) 0 ∗ ins I c ∗ flight c (xR 0) ∗ flight c (wR 0) ∗ flight c (xL 0) ∗ flight c (wL 0) ∗ flight c (sR 0) ∗ flight c (sL 0) ∗ eAt I c
          ∗ xAt c (rel c 7) fullShare I.toks ∗ wAt c (rel c 7) fullShare I.gates ∗ xAt c (rel c 1) fullShare I.toks ∗ wAt c (rel c 1) fullShare I.gates) -∗ WP c (κ c) Q)
      -∗ WP c (st1 (Memref.whole cc0_stg0_0) (Memref.whole cc0_stg1_0) (Memref.whole cc0_stg2_0) (Memref.whole cc0_stg3_0)
          xM hx wM hw eM he arrRM hr arrLM hl outRM ho outLM ho' cc0_scratch7 cc0_scratch8 cc0_scratch9 cc0_scratch10 cc0_scratch11 cc0_scratch12 cc0_scratch13 cc0_scratch14 cc0_scratch15 cc0_scratch16 cc0_scratch17 cc0_scratch18 κ) Q) := by
  simp only [st1, semSignalWord, semWaitWord, Prog.lift, Prog.bind_op, Prog.bind_ret, wp_deviceId]
  iintro #He Hh HO HlR HlL Hi Hx Hw HE HoR HoL Hk
  iapply (handshake I K c _ _ (dev1_eq c) (dev2_eq c)) $$ He Hh HO HlR HlL; iintro ⟨Hp, Hz⟩
  iapply (ld_ins I c) $$ Hi; iintro Hi
  iapply (put_x I c (off1_eq c)) $$ Hx; iintro Hx
  iapply (put_w I c (off2_eq c) rfl) $$ Hw; iintro Hw
  have es := e_slots c fe
  simp only [every] at es
  ihave HE' := (Entails.of_eq es) $$ HE
  icases HE' with ⟨HE0, HE1, HE2, HE3, -⟩
  iapply (put_e I c 0 rfl (fun v => rfl)) $$ Hi HE0; iintro ⟨Hi, HE0⟩
  iapply (put_e I c 1 rfl (fun v => rfl)) $$ Hi HE1; iintro ⟨Hi, HE1⟩
  iapply (put_e I c 2 rfl (fun v => rfl)) $$ Hi HE2; iintro ⟨Hi, HE2⟩
  iapply (put_e I c 3 rfl (fun v => rfl)) $$ Hi HE3; iintro ⟨Hi, HE3⟩
  have ej : iprop(eSlot c 0 (I.slabs c) ∗ eSlot c 1 (I.slabs c) ∗ eSlot c 2 (I.slabs c) ∗ eSlot c 3 (I.slabs c) ∗ emp) ⊢ (eAt I c : sProp 𝕄) :=
    Entails.of_eq (e_slots c (I.slabs c)).symm
  ihave HE := ej $$ [HE0 HE1 HE2 HE3]
  · isplitl [HE0]; · iexact HE0
    isplitl [HE1]; · iexact HE1
    isplitl [HE2]; · iexact HE2
    isplitl [HE3]; · iexact HE3
    iempintro
  ihave Hx' := (x_halves c (rel c 0) I.toks).1 $$ Hx
  icases Hx' with ⟨Hx0l, Hx0r⟩
  ihave Hw' := (w_halves c (rel c 0) I.gates).1 $$ Hw
  icases Hw' with ⟨Hw0l, Hw0r⟩
  iapply (send_xR I K c _ 0 (b := 0) rfl (sh := fullShare.left) rfl (off3_eq c 0) (dev3_eq c) rfl rfl rfl) $$ He Hp Hx0l; iintro ⟨Hp, FxR⟩
  iapply (send_wR I K c _ 0 (b := 0) rfl (sh := fullShare.left) rfl (off4_eq c 0) (dev4_eq c) rfl rfl rfl) $$ He Hp Hw0l; iintro ⟨Hp, FwR⟩
  iapply (send_xL I K c _ 0 (b := 0) rfl (sh := fullShare.right) rfl (off5_eq c 0) (dev5_eq c) rfl rfl rfl) $$ He Hp Hx0r; iintro ⟨Hp, FxL⟩
  iapply (send_wL I K c _ 0 (b := 0) rfl (sh := fullShare.right) rfl (off6_eq c 0) (dev6_eq c) rfl rfl rfl) $$ He Hp Hw0r; iintro ⟨Hp, FwL⟩
  iapply (await I K c (xR 0) rfl (by decide) rfl xM moves_x (P := xAt c (rel c 7) fullShare I.toks) rfl) $$ He Hp; iintro ⟨Hp, Hx7⟩
  iapply (await I K c (wR 0) rfl (by decide) rfl wM moves_w (P := wAt c (rel c 7) fullShare I.gates) rfl) $$ He Hp; iintro ⟨Hp, Hw7⟩
  iapply (await I K c (xL 0) rfl (by decide) rfl xM moves_x (P := xAt c (rel c 1) fullShare I.toks) rfl) $$ He Hp; iintro ⟨Hp, Hx1⟩
  iapply (await I K c (wL 0) rfl (by decide) rfl wM moves_w (P := wAt c (rel c 1) fullShare I.gates) rfl) $$ He Hp; iintro ⟨Hp, Hw1⟩
  iapply (firstR I K c (b := 7) rfl (o := 0) rfl _ (dev7_eq c) (off11_eq c 0) (off12_eq c 0) rfl rfl rfl
    (fun x w e0 e1 e2 e3 => hopR0_eq c x w e0 e1 e2 e3) rfl rfl) $$ He Hp HE Hx7 Hw7 HoR
  iintro ⟨Hp, FsR, HE, Hx7, Hw7⟩
  iapply (firstL I K c (b := 1) rfl (o := 0) rfl _ (dev8_eq c) (off13_eq c 0) (off14_eq c 0) rfl rfl rfl
    (fun x w e0 e1 e2 e3 => hopL0_eq c x w e0 e1 e2 e3) rfl rfl) $$ He Hp HE Hx1 Hw1 HoL
  iintro ⟨Hp, FsL, HE, Hx1, Hw1⟩
  iapply Hk
  isplitl [Hp]; · iexact Hp
  isplitl [Hz]; · iexact Hz
  isplitl [Hi]; · iexact Hi
  isplitl [FxR]; · iexact FxR
  isplitl [FwR]; · iexact FwR
  isplitl [FxL]; · iexact FxL
  isplitl [FwL]; · iexact FwL
  isplitl [FsR]; · iexact FsR
  isplitl [FsL]; · iexact FsL
  isplitl [HE]; · iexact HE
  isplitl [Hx7]; · iexact Hx7
  isplitl [Hw7]; · iexact Hw7
  isplitl [Hx1]; · iexact Hx1
  iexact Hw1

end Cert.KernelIdeal.Moe

end
-- ==== Proof.Steps.lean ====
/-
The steps of a device's run after the first: blocks passed on (while there are any left to pass), earlier copies waited out,
the next blocks awaited, one hop of each reduction. Each theorem says what a step needs and what it leaves.
-/
module

public import proofs.«01_k».proof.Proof.Hops
public import proofs.«01_k».proof.Proof.Cut

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-- The second step. -/
theorem step1 {α : Type} {Q : α → sProp 𝕄} {hx hw hr hl ho ho' : _} {fR fL : Vec F S2x512x256 .bf16} {κ : Prog (TpuEff nD τ sig (Elt F) Λ₀ .tc) α} :
    env I K ⊢ iprop(prot c 6 4 -∗ flight c (xR 0) -∗ flight c (wR 0) -∗ flight c (xL 0) -∗ flight c (wL 0) -∗ eAt I c
      -∗ xAt c (rel c 7) fullShare I.toks -∗ wAt c (rel c 7) fullShare I.gates -∗ xAt c (rel c 1) fullShare I.toks -∗ wAt c (rel c 1) fullShare I.gates -∗ outRAt c 1 fR -∗ outLAt c 1 fL
      -∗ ((prot c 12 14 ∗ flight c (xR 1) ∗ flight c (wR 1) ∗ flight c (xL 1) ∗ flight c (wL 1) ∗ flight c (sR 1) ∗ flight c (sL 1) ∗ eAt I c
          ∗ xAt c (rel c 0) fullShare.left I.toks ∗ wAt c (rel c 0) fullShare.left I.gates ∗ xAt c (rel c 0) fullShare.right I.toks ∗ wAt c (rel c 0) fullShare.right I.gates
          ∗ xAt c (rel c 6) fullShare I.toks ∗ wAt c (rel c 6) fullShare I.gates ∗ xAt c (rel c 2) fullShare I.toks ∗ wAt c (rel c 2) fullShare I.gates
          ∗ arrRAt c 0 (I.arrR c) ∗ arrLAt c 0 (I.arrL c)) -∗ WP c κ Q)
      -∗ WP c (st2 xM hx wM hw eM arrRM hr arrLM hl outRM ho outLM ho' cc0_scratch7 cc0_scratch8 cc0_scratch9 cc0_scratch10 cc0_scratch11 cc0_scratch12 cc0_scratch13 cc0_scratch14 cc0_scratch15 cc0_scratch16 cc0_scratch17 cc0_scratch18 c κ) Q) := by
  simp only [st2, Prog.lift, Prog.bind_op, Prog.bind_ret]
  iintro #He Hp FxR FwR FxL FwL HE Hx7 Hw7 Hx1 Hw1 HoR HoL Hk
  iapply (send_xR I K c _ 1 (b := 7) rfl (sh := fullShare) rfl (off3_eq c 1) (dev9_eq c) rfl rfl rfl) $$ He Hp Hx7; iintro ⟨Hp, FxR1⟩
  iapply (send_wR I K c _ 1 (b := 7) rfl (sh := fullShare) rfl (off4_eq c 1) (dev10_eq c) rfl rfl rfl) $$ He Hp Hw7; iintro ⟨Hp, FwR1⟩
  iapply (send_xL I K c _ 1 (b := 1) rfl (sh := fullShare) rfl (off5_eq c 1) (dev11_eq c) rfl rfl rfl) $$ He Hp Hx1; iintro ⟨Hp, FxL1⟩
  iapply (send_wL I K c _ 1 (b := 1) rfl (sh := fullShare) rfl (off6_eq c 1) (dev12_eq c) rfl rfl rfl) $$ He Hp Hw1; iintro ⟨Hp, FwL1⟩
  iapply (reclaim I K c (xR 0) rfl rfl xM moves_x (P := xAt c (rel c 0) fullShare.left I.toks) rfl) $$ He Hp FxR; iintro ⟨Hp, Hx0l⟩
  iapply (reclaim I K c (wR 0) rfl rfl wM moves_w (P := wAt c (rel c 0) fullShare.left I.gates) rfl) $$ He Hp FwR; iintro ⟨Hp, Hw0l⟩
  iapply (reclaim I K c (xL 0) rfl rfl xM moves_x (P := xAt c (rel c 0) fullShare.right I.toks) rfl) $$ He Hp FxL; iintro ⟨Hp, Hx0r⟩
  iapply (reclaim I K c (wL 0) rfl rfl wM moves_w (P := wAt c (rel c 0) fullShare.right I.gates) rfl) $$ He Hp FwL; iintro ⟨Hp, Hw0r⟩
  iapply (await I K c (xR 1) rfl (by decide) rfl xM moves_x (P := xAt c (rel c 6) fullShare I.toks) rfl) $$ He Hp; iintro ⟨Hp, Hx6⟩
  iapply (await I K c (wR 1) rfl (by decide) rfl wM moves_w (P := wAt c (rel c 6) fullShare I.gates) rfl) $$ He Hp; iintro ⟨Hp, Hw6⟩
  iapply (await I K c (xL 1) rfl (by decide) rfl xM moves_x (P := xAt c (rel c 2) fullShare I.toks) rfl) $$ He Hp; iintro ⟨Hp, Hx2⟩
  iapply (await I K c (wL 1) rfl (by decide) rfl wM moves_w (P := wAt c (rel c 2) fullShare I.gates) rfl) $$ He Hp; iintro ⟨Hp, Hw2⟩
  iapply (laterR I K c 1 0 (b := 6) rfl (o := 1) rfl rfl _ (dev13_eq c) (off11_eq c 1) (off12_eq c 1) rfl rfl rfl rfl (by decide) rfl
    (fun x w e0 e1 e2 e3 r => hopR1_eq c x w e0 e1 e2 e3 r) rfl rfl rfl) $$ He Hp HE Hx6 Hw6 HoR
  iintro ⟨Hp, FsR, HE, Hx6, Hw6, HaR⟩
  iapply (laterL I K c 1 0 (b := 2) rfl (o := 1) rfl rfl _ (dev14_eq c) (off13_eq c 1) (off14_eq c 1) rfl rfl rfl rfl (by decide) rfl
    (fun x w e0 e1 e2 e3 r => hopL1_eq c x w e0 e1 e2 e3 r) rfl rfl rfl) $$ He Hp HE Hx2 Hw2 HoL
  iintro ⟨Hp, FsL, HE, Hx2, Hw2, HaL⟩
  iapply Hk
  isplitl [Hp]; · iexact Hp
  isplitl [FxR1]; · iexact FxR1
  isplitl [FwR1]; · iexact FwR1
  isplitl [FxL1]; · iexact FxL1
  isplitl [FwL1]; · iexact FwL1
  isplitl [FsR]; · iexact FsR
  isplitl [FsL]; · iexact FsL
  isplitl [HE]; · iexact HE
  isplitl [Hx0l]; · iexact Hx0l
  isplitl [Hw0l]; · iexact Hw0l
  isplitl [Hx0r]; · iexact Hx0r
  isplitl [Hw0r]; · iexact Hw0r
  isplitl [Hx6]; · iexact Hx6
  isplitl [Hw6]; · iexact Hw6
  isplitl [Hx2]; · iexact Hx2
  isplitl [Hw2]; · iexact Hw2
  isplitl [HaR]; · iexact HaR
  iexact HaL

/-- The third step. -/
theorem step2 {α : Type} {Q : α → sProp 𝕄} {hx hw hr hl ho ho' : _} {κ : Prog (TpuEff nD τ sig (Elt F) Λ₀ .tc) α} :
    env I K ⊢ iprop(prot c 12 14 -∗ flight c (sR 0) -∗ flight c (sL 0) -∗ flight c (xR 1) -∗ flight c (wR 1) -∗ flight c (xL 1) -∗ flight c (wL 1) -∗ eAt I c
      -∗ xAt c (rel c 6) fullShare I.toks -∗ wAt c (rel c 6) fullShare I.gates -∗ xAt c (rel c 2) fullShare I.toks -∗ wAt c (rel c 2) fullShare I.gates
      -∗ ((prot c 18 26 ∗ flight c (xR 2) ∗ flight c (wR 2) ∗ flight c (xL 2) ∗ flight c (wL 2) ∗ flight c (sR 2) ∗ flight c (sL 2) ∗ eAt I c
          ∗ xAt c (rel c 7) fullShare I.toks ∗ wAt c (rel c 7) fullShare I.gates ∗ xAt c (rel c 1) fullShare I.toks ∗ wAt c (rel c 1) fullShare I.gates
          ∗ xAt c (rel c 5) fullShare I.toks ∗ wAt c (rel c 5) fullShare I.gates ∗ xAt c (rel c 3) fullShare I.toks ∗ wAt c (rel c 3) fullShare I.gates
          ∗ arrRAt c 1 (I.arrR c) ∗ arrLAt c 1 (I.arrL c)) -∗ WP c κ Q)
      -∗ WP c (st3 xM hx wM hw eM arrRM hr arrLM hl outRM ho outLM ho' cc0_scratch7 cc0_scratch8 cc0_scratch9 cc0_scratch10 cc0_scratch11 cc0_scratch12 cc0_scratch13 cc0_scratch14 cc0_scratch15 cc0_scratch16 cc0_scratch17 cc0_scratch18 c κ) Q) := by
  simp only [st3, Prog.lift, Prog.bind_op, Prog.bind_ret]
  iintro #He Hp FsR FsL FxR FwR FxL FwL HE Hx6 Hw6 Hx2 Hw2 Hk
  iapply (send_xR I K c _ 2 (b := 6) rfl (sh := fullShare) rfl (off3_eq c 2) (dev15_eq c) rfl rfl rfl) $$ He Hp Hx6; iintro ⟨Hp, FxR2⟩
  iapply (send_wR I K c _ 2 (b := 6) rfl (sh := fullShare) rfl (off4_eq c 2) (dev16_eq c) rfl rfl rfl) $$ He Hp Hw6; iintro ⟨Hp, FwR2⟩
  iapply (send_xL I K c _ 2 (b := 2) rfl (sh := fullShare) rfl (off5_eq c 2) (dev17_eq c) rfl rfl rfl) $$ He Hp Hx2; iintro ⟨Hp, FxL2⟩
  iapply (send_wL I K c _ 2 (b := 2) rfl (sh := fullShare) rfl (off6_eq c 2) (dev18_eq c) rfl rfl rfl) $$ He Hp Hw2; iintro ⟨Hp, FwL2⟩
  iapply (reclaim I K c (sR 0) rfl rfl outRM moves_outR (P := iprop(∃ f, outRAt c 0 f)) rfl) $$ He Hp FsR; iintro ⟨Hp, ⟨%fR, HoR⟩⟩
  iapply (reclaim I K c (sL 0) rfl rfl outLM moves_outL (P := iprop(∃ f, outLAt c 0 f)) rfl) $$ He Hp FsL; iintro ⟨Hp, ⟨%fL, HoL⟩⟩
  iapply (reclaim I K c (xR 1) rfl rfl xM moves_x (P := xAt c (rel c 7) fullShare I.toks) rfl) $$ He Hp FxR; iintro ⟨Hp, Hx7⟩
  iapply (reclaim I K c (wR 1) rfl rfl wM moves_w (P := wAt c (rel c 7) fullShare I.gates) rfl) $$ He Hp FwR; iintro ⟨Hp, Hw7⟩
  iapply (reclaim I K c (xL 1) rfl rfl xM moves_x (P := xAt c (rel c 1) fullShare I.toks) rfl) $$ He Hp FxL; iintro ⟨Hp, Hx1⟩
  iapply (reclaim I K c (wL 1) rfl rfl wM moves_w (P := wAt c (rel c 1) fullShare I.gates) rfl) $$ He Hp FwL; iintro ⟨Hp, Hw1⟩
  iapply (await I K c (xR 2) rfl (by decide) rfl xM moves_x (P := xAt c (rel c 5) fullShare I.toks) rfl) $$ He Hp; iintro ⟨Hp, Hx5⟩
  iapply (await I K c (wR 2) rfl (by decide) rfl wM moves_w (P := wAt c (rel c 5) fullShare I.gates) rfl) $$ He Hp; iintro ⟨Hp, Hw5⟩
  iapply (await I K c (xL 2) rfl (by decide) rfl xM moves_x (P := xAt c (rel c 3) fullShare I.toks) rfl) $$ He Hp; iintro ⟨Hp, Hx3⟩
  iapply (await I K c (wL 2) rfl (by decide) rfl wM moves_w (P := wAt c (rel c 3) fullShare I.gates) rfl) $$ He Hp; iintro ⟨Hp, Hw3⟩
  iapply (laterR I K c 2 1 (b := 5) rfl (o := 0) rfl rfl _ (dev19_eq c) (off11_eq c 2) (off12_eq c 2) rfl rfl rfl rfl (by decide) rfl
    (fun x w e0 e1 e2 e3 r => hopR2_eq c x w e0 e1 e2 e3 r) rfl rfl rfl) $$ He Hp HE Hx5 Hw5 HoR
  iintro ⟨Hp, FsR, HE, Hx5, Hw5, HaR⟩
  iapply (laterL I K c 2 1 (b := 3) rfl (o := 0) rfl rfl _ (dev20_eq c) (off13_eq c 2) (off14_eq c 2) rfl rfl rfl rfl (by decide) rfl
    (fun x w e0 e1 e2 e3 r => hopL2_eq c x w e0 e1 e2 e3 r) rfl rfl rfl) $$ He Hp HE Hx3 Hw3 HoL
  iintro ⟨Hp, FsL, HE, Hx3, Hw3, HaL⟩
  iapply Hk
  isplitl [Hp]; · iexact Hp
  isplitl [FxR2]; · iexact FxR2
  isplitl [FwR2]; · iexact FwR2
  isplitl [FxL2]; · iexact FxL2
  isplitl [FwL2]; · iexact FwL2
  isplitl [FsR]; · iexact FsR
  isplitl [FsL]; · iexact FsL
  isplitl [HE]; · iexact HE
  isplitl [Hx7]; · iexact Hx7
  isplitl [Hw7]; · iexact Hw7
  isplitl [Hx1]; · iexact Hx1
  isplitl [Hw1]; · iexact Hw1
  isplitl [Hx5]; · iexact Hx5
  isplitl [Hw5]; · iexact Hw5
  isplitl [Hx3]; · iexact Hx3
  isplitl [Hw3]; · iexact Hw3
  isplitl [HaR]; · iexact HaR
  iexact HaL

/-- The fourth step: the last block is passed on. -/
theorem step3 {α : Type} {Q : α → sProp 𝕄} {hx hw hr hl ho ho' : _} {κ : Prog (TpuEff nD τ sig (Elt F) Λ₀ .tc) α} :
    env I K ⊢ iprop(prot c 18 26 -∗ flight c (sR 1) -∗ flight c (sL 1) -∗ flight c (xR 2) -∗ flight c (wR 2) -∗ flight c (xL 2) -∗ flight c (wL 2) -∗ eAt I c
      -∗ xAt c (rel c 5) fullShare I.toks -∗ wAt c (rel c 5) fullShare I.gates
      -∗ ((prot c 22 36 ∗ flight c (xR 3) ∗ flight c (wR 3) ∗ flight c (sR 3) ∗ flight c (sL 3) ∗ eAt I c
          ∗ xAt c (rel c 6) fullShare I.toks ∗ wAt c (rel c 6) fullShare I.gates ∗ xAt c (rel c 2) fullShare I.toks ∗ wAt c (rel c 2) fullShare I.gates
          ∗ xAt c (rel c 4) fullShare I.toks ∗ wAt c (rel c 4) fullShare I.gates
          ∗ arrRAt c 2 (I.arrR c) ∗ arrLAt c 2 (I.arrL c)) -∗ WP c κ Q)
      -∗ WP c (st4 xM hx wM hw eM arrRM hr arrLM hl outRM ho outLM ho' cc0_scratch7 cc0_scratch8 cc0_scratch9 cc0_scratch10 cc0_scratch11 cc0_scratch13 cc0_scratch15 cc0_scratch16 cc0_scratch17 cc0_scratch18 c κ) Q) := by
  simp only [st4, Prog.lift, Prog.bind_op, Prog.bind_ret]
  iintro #He Hp FsR FsL FxR FwR FxL FwL HE Hx5 Hw5 Hk
  iapply (send_xR I K c _ 3 (b := 5) rfl (sh := fullShare) rfl (off3_eq c 3) (dev21_eq c) rfl rfl rfl) $$ He Hp Hx5; iintro ⟨Hp, FxR3⟩
  iapply (send_wR I K c _ 3 (b := 5) rfl (sh := fullShare) rfl (off4_eq c 3) (dev22_eq c) rfl rfl rfl) $$ He Hp Hw5; iintro ⟨Hp, FwR3⟩
  iapply (reclaim I K c (sR 1) rfl rfl outRM moves_outR (P := iprop(∃ f, outRAt c 1 f)) rfl) $$ He Hp FsR; iintro ⟨Hp, ⟨%fR, HoR⟩⟩
  iapply (reclaim I K c (sL 1) rfl rfl outLM moves_outL (P := iprop(∃ f, outLAt c 1 f)) rfl) $$ He Hp FsL; iintro ⟨Hp, ⟨%fL, HoL⟩⟩
  iapply (reclaim I K c (xR 2) rfl rfl xM moves_x (P := xAt c (rel c 6) fullShare I.toks) rfl) $$ He Hp FxR; iintro ⟨Hp, Hx6⟩
  iapply (reclaim I K c (wR 2) rfl rfl wM moves_w (P := wAt c (rel c 6) fullShare I.gates) rfl) $$ He Hp FwR; iintro ⟨Hp, Hw6⟩
  iapply (reclaim I K c (xL 2) rfl rfl xM moves_x (P := xAt c (rel c 2) fullShare I.toks) rfl) $$ He Hp FxL; iintro ⟨Hp, Hx2⟩
  iapply (reclaim I K c (wL 2) rfl rfl wM moves_w (P := wAt c (rel c 2) fullShare I.gates) rfl) $$ He Hp FwL; iintro ⟨Hp, Hw2⟩
  iapply (await I K c (xR 3) rfl (by decide) rfl xM moves_x (P := xAt c (rel c 4) fullShare I.toks) rfl) $$ He Hp; iintro ⟨Hp, Hx4⟩
  iapply (await I K c (wR 3) rfl (by decide) rfl wM moves_w (P := wAt c (rel c 4) fullShare I.gates) rfl) $$ He Hp; iintro ⟨Hp, Hw4⟩
  iapply (laterR I K c 3 2 (b := 4) rfl (o := 1) rfl rfl _ (dev23_eq c) (off11_eq c 3) (off12_eq c 3) rfl rfl rfl rfl (by decide) rfl
    (fun x w e0 e1 e2 e3 r => hopR3_eq c x w e0 e1 e2 e3 r) rfl rfl rfl) $$ He Hp HE Hx4 Hw4 HoR
  iintro ⟨Hp, FsR, HE, Hx4, Hw4, HaR⟩
  iapply (laterL I K c 3 2 (b := 4) rfl (o := 1) rfl rfl _ (dev24_eq c) (off13_eq c 3) (off14_eq c 3) rfl rfl rfl rfl (by decide) rfl
    (fun x w e0 e1 e2 e3 r => hopL3_eq c x w e0 e1 e2 e3 r) rfl rfl rfl) $$ He Hp HE Hx4 Hw4 HoL
  iintro ⟨Hp, FsL, HE, Hx4, Hw4, HaL⟩
  iapply Hk
  isplitl [Hp]; · iexact Hp
  isplitl [FxR3]; · iexact FxR3
  isplitl [FwR3]; · iexact FwR3
  isplitl [FsR]; · iexact FsR
  isplitl [FsL]; · iexact FsL
  isplitl [HE]; · iexact HE
  isplitl [Hx6]; · iexact Hx6
  isplitl [Hw6]; · iexact Hw6
  isplitl [Hx2]; · iexact Hx2
  isplitl [Hw2]; · iexact Hw2
  isplitl [Hx4]; · iexact Hx4
  isplitl [Hw4]; · iexact Hw4
  isplitl [HaR]; · iexact HaR
  iexact HaL

/-- The fifth step: no block is passed on any more. -/
theorem step4 {α : Type} {Q : α → sProp 𝕄} {hx hw hr hl ho ho' : _} {κ : Prog (TpuEff nD τ sig (Elt F) Λ₀ .tc) α} :
    env I K ⊢ iprop(prot c 22 36 -∗ flight c (sR 2) -∗ flight c (sL 2) -∗ flight c (xR 3) -∗ flight c (wR 3) -∗ eAt I c
      -∗ xAt c (rel c 3) fullShare I.toks -∗ wAt c (rel c 3) fullShare I.gates
      -∗ ((prot c 24 42 ∗ flight c (sR 4) ∗ flight c (sL 4) ∗ eAt I c
          ∗ xAt c (rel c 3) fullShare I.toks ∗ wAt c (rel c 3) fullShare I.gates ∗ xAt c (rel c 5) fullShare I.toks ∗ wAt c (rel c 5) fullShare I.gates
          ∗ arrRAt c 3 (I.arrR c) ∗ arrLAt c 3 (I.arrL c)) -∗ WP c κ Q)
      -∗ WP c (st5 xM hx wM hw eM arrRM hr arrLM hl outRM ho outLM ho' cc0_scratch7 cc0_scratch9 cc0_scratch15 cc0_scratch16 cc0_scratch17 cc0_scratch18 c κ) Q) := by
  simp only [st5, Prog.lift, Prog.bind_op, Prog.bind_ret]
  iintro #He Hp FsR FsL FxR FwR HE Hx3 Hw3 Hk
  iapply (reclaim I K c (sR 2) rfl rfl outRM moves_outR (P := iprop(∃ f, outRAt c 0 f)) rfl) $$ He Hp FsR; iintro ⟨Hp, ⟨%fR, HoR⟩⟩
  iapply (reclaim I K c (sL 2) rfl rfl outLM moves_outL (P := iprop(∃ f, outLAt c 0 f)) rfl) $$ He Hp FsL; iintro ⟨Hp, ⟨%fL, HoL⟩⟩
  iapply (reclaim I K c (xR 3) rfl rfl xM moves_x (P := xAt c (rel c 5) fullShare I.toks) rfl) $$ He Hp FxR; iintro ⟨Hp, Hx5⟩
  iapply (reclaim I K c (wR 3) rfl rfl wM moves_w (P := wAt c (rel c 5) fullShare I.gates) rfl) $$ He Hp FwR; iintro ⟨Hp, Hw5⟩
  iapply (laterR I K c 4 3 (b := 3) rfl (o := 0) rfl rfl _ (dev25_eq c) (off11_eq c 4) (off12_eq c 4) rfl rfl rfl rfl (by decide) rfl
    (fun x w e0 e1 e2 e3 r => hopR4_eq c x w e0 e1 e2 e3 r) rfl rfl rfl) $$ He Hp HE Hx3 Hw3 HoR
  iintro ⟨Hp, FsR4, HE, Hx3, Hw3, HaR⟩
  iapply (laterL I K c 4 3 (b := 5) rfl (o := 0) rfl rfl _ (dev26_eq c) (off13_eq c 4) (off14_eq c 4) rfl rfl rfl rfl (by decide) rfl
    (fun x w e0 e1 e2 e3 r => hopL4_eq c x w e0 e1 e2 e3 r) rfl rfl rfl) $$ He Hp HE Hx5 Hw5 HoL
  iintro ⟨Hp, FsL4, HE, Hx5, Hw5, HaL⟩
  iapply Hk
  isplitl [Hp]; · iexact Hp
  isplitl [FsR4]; · iexact FsR4
  isplitl [FsL4]; · iexact FsL4
  isplitl [HE]; · iexact HE
  isplitl [Hx3]; · iexact Hx3
  isplitl [Hw3]; · iexact Hw3
  isplitl [Hx5]; · iexact Hx5
  isplitl [Hw5]; · iexact Hw5
  isplitl [HaR]; · iexact HaR
  iexact HaL

/-- The sixth step. -/
theorem step5 {α : Type} {Q : α → sProp 𝕄} {hr hl ho ho' : _} {κ : Prog (TpuEff nD τ sig (Elt F) Λ₀ .tc) α} :
    env I K ⊢ iprop(prot c 24 42 -∗ flight c (sR 3) -∗ flight c (sL 3) -∗ eAt I c
      -∗ xAt c (rel c 2) fullShare I.toks -∗ wAt c (rel c 2) fullShare I.gates -∗ xAt c (rel c 6) fullShare I.toks -∗ wAt c (rel c 6) fullShare I.gates
      -∗ ((prot c 26 46 ∗ flight c (sR 5) ∗ flight c (sL 5) ∗ eAt I c
          ∗ xAt c (rel c 2) fullShare I.toks ∗ wAt c (rel c 2) fullShare I.gates ∗ xAt c (rel c 6) fullShare I.toks ∗ wAt c (rel c 6) fullShare I.gates
          ∗ arrRAt c 4 (I.arrR c) ∗ arrLAt c 4 (I.arrL c)) -∗ WP c κ Q)
      -∗ WP c (st6 xM wM eM arrRM hr arrLM hl outRM ho outLM ho' cc0_scratch15 cc0_scratch16 cc0_scratch17 cc0_scratch18 c κ) Q) := by
  simp only [st6, Prog.lift, Prog.bind_op, Prog.bind_ret]
  iintro #He Hp FsR FsL HE Hxa Hwa Hxb Hwb Hk
  iapply (reclaim I K c (sR 3) rfl rfl outRM moves_outR (P := iprop(∃ f, outRAt c 1 f)) rfl) $$ He Hp FsR; iintro ⟨Hp, ⟨%fR, HoR⟩⟩
  iapply (reclaim I K c (sL 3) rfl rfl outLM moves_outL (P := iprop(∃ f, outLAt c 1 f)) rfl) $$ He Hp FsL; iintro ⟨Hp, ⟨%fL, HoL⟩⟩
  iapply (laterR I K c 5 4 (b := 2) rfl (o := 1) rfl rfl _ (dev27_eq c) (off11_eq c 5) (off12_eq c 5) rfl rfl rfl rfl (by decide) rfl
    (fun x w e0 e1 e2 e3 r => hopR5_eq c x w e0 e1 e2 e3 r) rfl rfl rfl) $$ He Hp HE Hxa Hwa HoR
  iintro ⟨Hp, FsR, HE, Hxa, Hwa, HaR⟩
  iapply (laterL I K c 5 4 (b := 6) rfl (o := 1) rfl rfl _ (dev28_eq c) (off13_eq c 5) (off14_eq c 5) rfl rfl rfl rfl (by decide) rfl
    (fun x w e0 e1 e2 e3 r => hopL5_eq c x w e0 e1 e2 e3 r) rfl rfl rfl) $$ He Hp HE Hxb Hwb HoL
  iintro ⟨Hp, FsL, HE, Hxb, Hwb, HaL⟩
  iapply Hk
  isplitl [Hp]; · iexact Hp
  isplitl [FsR]; · iexact FsR
  isplitl [FsL]; · iexact FsL
  isplitl [HE]; · iexact HE
  isplitl [Hxa]; · iexact Hxa
  isplitl [Hwa]; · iexact Hwa
  isplitl [Hxb]; · iexact Hxb
  isplitl [Hwb]; · iexact Hwb
  isplitl [HaR]; · iexact HaR
  iexact HaL

/-- The seventh step. -/
theorem step6 {α : Type} {Q : α → sProp 𝕄} {hr hl ho ho' : _} {κ : Prog (TpuEff nD τ sig (Elt F) Λ₀ .tc) α} :
    env I K ⊢ iprop(prot c 26 46 -∗ flight c (sR 4) -∗ flight c (sL 4) -∗ eAt I c
      -∗ xAt c (rel c 1) fullShare I.toks -∗ wAt c (rel c 1) fullShare I.gates -∗ xAt c (rel c 7) fullShare I.toks -∗ wAt c (rel c 7) fullShare I.gates
      -∗ ((prot c 28 50 ∗ flight c (sR 6) ∗ flight c (sL 6) ∗ eAt I c
          ∗ xAt c (rel c 1) fullShare I.toks ∗ wAt c (rel c 1) fullShare I.gates ∗ xAt c (rel c 7) fullShare I.toks ∗ wAt c (rel c 7) fullShare I.gates
          ∗ arrRAt c 5 (I.arrR c) ∗ arrLAt c 5 (I.arrL c)) -∗ WP c κ Q)
      -∗ WP c (st7 xM wM eM arrRM hr arrLM hl outRM ho outLM ho' cc0_scratch15 cc0_scratch16 cc0_scratch17 cc0_scratch18 c κ) Q) := by
  simp only [st7, Prog.lift, Prog.bind_op, Prog.bind_ret]
  iintro #He Hp FsR FsL HE Hxa Hwa Hxb Hwb Hk
  iapply (reclaim I K c (sR 4) rfl rfl outRM moves_outR (P := iprop(∃ f, outRAt c 0 f)) rfl) $$ He Hp FsR; iintro ⟨Hp, ⟨%fR, HoR⟩⟩
  iapply (reclaim I K c (sL 4) rfl rfl outLM moves_outL (P := iprop(∃ f, outLAt c 0 f)) rfl) $$ He Hp FsL; iintro ⟨Hp, ⟨%fL, HoL⟩⟩
  iapply (laterR I K c 6 5 (b := 1) rfl (o := 0) rfl rfl _ (dev29_eq c) (off11_eq c 6) (off12_eq c 6) rfl rfl rfl rfl (by decide) rfl
    (fun x w e0 e1 e2 e3 r => hopR6_eq c x w e0 e1 e2 e3 r) rfl rfl rfl) $$ He Hp HE Hxa Hwa HoR
  iintro ⟨Hp, FsR, HE, Hxa, Hwa, HaR⟩
  iapply (laterL I K c 6 5 (b := 7) rfl (o := 0) rfl rfl _ (dev30_eq c) (off13_eq c 6) (off14_eq c 6) rfl rfl rfl rfl (by decide) rfl
    (fun x w e0 e1 e2 e3 r => hopL6_eq c x w e0 e1 e2 e3 r) rfl rfl rfl) $$ He Hp HE Hxb Hwb HoL
  iintro ⟨Hp, FsL, HE, Hxb, Hwb, HaL⟩
  iapply Hk
  isplitl [Hp]; · iexact Hp
  isplitl [FsR]; · iexact FsR
  isplitl [FsL]; · iexact FsL
  isplitl [HE]; · iexact HE
  isplitl [Hxa]; · iexact Hxa
  isplitl [Hwa]; · iexact Hwa
  isplitl [Hxb]; · iexact Hxb
  isplitl [Hwb]; · iexact Hwb
  isplitl [HaR]; · iexact HaR
  iexact HaL

end Cert.KernelIdeal.Moe

end
-- ==== Proof.Close.lean ====
/-
The end of a device's run: the last sum of each direction, what arrived last added, both stored in the result; then the
last copies waited out.
-/
module

public import proofs.«01_k».proof.Proof.Hops
public import proofs.«01_k».proof.Proof.Cut
public import Idealize.ShloMosaic.Lib.ValueIdxCore

@[expose] public section

set_option maxRecDepth 4000

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-! ## The result -/

/-- Device `c`'s result: left half of the columns from the right-going sum, right half from the left-going one. -/
def Inputs.res (c : Dev nD) : Vec F S512x512 .f32 := fun i =>
  if h : (i 1).val < 256 then I.resR c (ValueIdx.ix2 (i 0) ⟨(i 1).val, h⟩)
  else I.resL c (ValueIdx.ix2 (i 0) ⟨(i 1).val - 256, by have : (i 1).val < 512 := (i 1).isLt; show (i 1).val - 256 < 256; omega⟩)

abbrev resM : Memref sig .tc .vmem S512x512 .f32 := Memref.whole cc0_stg4_0

/-- The result buffer. -/
def resAt (f : Vec F S512x512 .f32) : sProp 𝕄 := ((c : Thread nD τ).loc cc0_stg4_0) ↦{fullShare} f

theorem read_left {inb : _} : (resM.access (Rect.unit (s := S512x512) ![0, 0] S512x256.size inb)).read (Elt F) (I.res c) = I.resR c := by
  funext y
  have h1 : (y 1).val < 256 := (y 1).isLt
  show I.res c ((Rect.unit (s := S512x512) ![0, 0] S512x256.size inb).emb y) = _
  have e : ((Rect.unit (s := S512x512) ![0, 0] S512x256.size inb).emb y 1).val = (y 1).val := by show 0 + 1 * (y 1).val = _; omega
  unfold Inputs.res
  rw [dif_pos (by rw [e]; exact h1)]
  congr 1
  funext a
  fin_cases a
  · exact Fin.ext (by show 0 + 1 * (y 0).val = (y 0).val; omega)
  · exact Fin.ext e

theorem read_right {inb : _} : (resM.access (Rect.unit (s := S512x512) ![0, 256] S512x256.size inb)).read (Elt F) (I.res c) = I.resL c := by
  funext y
  have h1 : (y 1).val < 256 := (y 1).isLt
  show I.res c ((Rect.unit (s := S512x512) ![0, 256] S512x256.size inb).emb y) = _
  have e : ((Rect.unit (s := S512x512) ![0, 256] S512x256.size inb).emb y 1).val = 256 + (y 1).val := by show 256 + 1 * (y 1).val = _; omega
  unfold Inputs.res
  rw [dif_neg (by rw [e]; omega)]
  congr 1
  funext a
  fin_cases a
  · exact Fin.ext (by show 0 + 1 * (y 0).val = (y 0).val; omega)
  · exact Fin.ext (by show ((Rect.unit (s := S512x512) ![0, 256] S512x256.size inb).emb y 1).val - 256 = (y 1).val; omega)

/-- Both halves written, whatever was there. -/
theorem both_halves {i0 i1 : _} (f : Vec F S512x512 .f32) :
    (resM.access (Rect.unit (s := S512x512) ![0, 256] S512x256.size i1)).write (Elt F)
      ((resM.access (Rect.unit (s := S512x512) ![0, 0] S512x256.size i0)).write (Elt F) f (I.resR c) Finset.univ) (I.resL c) Finset.univ = I.res c := by
  rw [← read_left I c (inb := i0), ← read_right I c (inb := i1), View.write_read_eq_piecewise, View.write_read_eq_piecewise]
  funext j
  have h0 : (j 0).val < 512 := (j 0).isLt
  have h1 : (j 1).val < 512 := (j 1).isLt
  by_cases h : j ∈ (resM.access (Rect.unit (s := S512x512) ![0, 256] S512x256.size i1)).setOn Finset.univ
  · rw [Finset.piecewise_eq_of_mem _ _ _ h]
  rw [Finset.piecewise_eq_of_notMem _ _ _ h]
  apply Finset.piecewise_eq_of_mem
  have hr : (resM.access (Rect.unit (s := S512x512) ![0, 256] S512x256.size i1)).setOn Finset.univ = (Rect.unit (s := S512x512) ![0, 256] S512x256.size i1).set := View.set_slice_whole _ _
  have hl : (resM.access (Rect.unit (s := S512x512) ![0, 0] S512x256.size i0)).setOn Finset.univ = (Rect.unit (s := S512x512) ![0, 0] S512x256.size i0).set := View.set_slice_whole _ _
  rw [hr, Rect.mem_set_unit] at h
  rw [hl, Rect.mem_set_unit]
  by_contra h'
  apply h
  intro a
  fin_cases a
  · exact ⟨Nat.zero_le _, by show (j 0).val < 0 + 512; omega⟩
  · refine ⟨?_, by show (j 1).val < 256 + 256; omega⟩
    show 256 ≤ (j 1).val
    by_contra h2
    apply h'
    intro a
    fin_cases a
    · exact ⟨Nat.zero_le _, by show (j 0).val < 0 + 512; omega⟩
    · exact ⟨Nat.zero_le _, by show (j 1).val < 0 + 256; omega⟩

/-- A half of the result loaded, to no use, and stored. -/
theorem put_half {α : Type} {Q : α → sProp 𝕄} {off : Fin 2 → ℕ} {i l i' hx hm : _} {f : Vec F S512x512 .f32} {w : Vec F S512x256 .f32}
    {κ : PUnit → Prog (TpuEff nD τ sig (Elt F) Λ₀ .tc) α} :
    resAt c f ⊢ iprop((resAt c ((resM.access (Rect.unit (s := S512x512) off S512x256.size i')).write (Elt F) f w Finset.univ) -∗ WP c (κ ⟨⟩) Q)
      -∗ WP c (.op (.load resM (Rect.unit (s := S512x512) off S512x256.size i).toLoadRect l) fun _ =>
          .op (.store resM (Rect.unit (s := S512x512) off S512x256.size i') w Finset.univ hx hm) κ) Q) := by
  unfold resAt
  iintro H Hk
  iapply (wp_load 𝒱₀ (c : Thread nD τ) none Set.univ (m := resM) (S := Finset.univ) (f := f) (Finset.subset_univ _)) $$ H
  iintro H
  have h2 := wp_store (defs := defs₀ (F := F)) 𝒱₀ (c : Thread nD τ) none (Γ := []) Set.univ (Q := Q) (m := resM) (r := Rect.unit (s := S512x512) off S512x256.size i') (w := w) (hx := hx) (hm := hm) (k := κ)
    (S := Finset.univ) (f := f) (Finset.subset_univ _)
  iapply h2 $$ H
  iexact Hk

/-- The last step. -/
theorem step7 {α : Type} {Q : α → sProp 𝕄} {hr hl ho ho' : _} {q : PosShare TreeShare} {f : Vec F S512x512 .f32} {κ : Prog (TpuEff nD τ sig (Elt F) Λ₀ .tc) α} :
    env I K ⊢ iprop(prot c 28 50 -∗ flight c (sR 5) -∗ flight c (sL 5) -∗ flight c (sR 6) -∗ flight c (sL 6) -∗ eAt I c
      -∗ xAt c (rel c 0) q I.toks -∗ wAt c (rel c 0) q I.gates -∗ resAt c f
      -∗ ((prot c 28 56 ∗ eAt I c ∗ xAt c (rel c 0) q I.toks ∗ wAt c (rel c 0) q I.gates ∗ resAt c (I.res c)
          ∗ arrRAt c 6 (I.arrR c) ∗ arrLAt c 6 (I.arrL c)
          ∗ (∃ f, outRAt c 0 f) ∗ (∃ f, outRAt c 1 f) ∗ (∃ f, outLAt c 0 f) ∗ (∃ f, outLAt c 1 f)) -∗ WP c κ Q)
      -∗ WP c (st8 resM xM wM eM arrRM hr arrLM hl outRM ho outLM ho' cc0_scratch15 cc0_scratch16 cc0_scratch17 cc0_scratch18 c κ) Q) := by
  simp only [st8, Prog.lift, Prog.bind_op, Prog.bind_ret]
  iintro #He Hp FsR5 FsL5 FsR6 FsL6 HE Hx Hw Hres Hk
  iapply (ld_block I c (off1_eq c) (off2_eq c)) $$ HE Hx Hw; iintro ⟨HE, Hx, Hw⟩
  iapply (await I K c (sR 6) rfl (by decide) rfl arrRM moves_arrR (P := arrRAt c 6 (I.arrR c)) rfl) $$ He Hp; iintro ⟨Hp, HaR⟩
  iapply (ld_arrR I c 6 rfl) $$ HaR; iintro HaR
  iapply (put_half c) $$ Hres; iintro Hres
  iapply (ld_block I c (off1_eq c) (off2_eq c)) $$ HE Hx Hw; iintro ⟨HE, Hx, Hw⟩
  iapply (await I K c (sL 6) rfl (by decide) rfl arrLM moves_arrL (P := arrLAt c 6 (I.arrL c)) rfl) $$ He Hp; iintro ⟨Hp, HaL⟩
  iapply (ld_arrL I c 6 rfl) $$ HaL; iintro HaL
  iapply (put_half c) $$ Hres; iintro Hres
  iapply (reclaim I K c (sR 5) rfl rfl outRM moves_outR (P := iprop(∃ f, outRAt c 1 f)) rfl) $$ He Hp FsR5; iintro ⟨Hp, HoR1⟩
  iapply (reclaim I K c (sR 6) rfl rfl outRM moves_outR (P := iprop(∃ f, outRAt c 0 f)) rfl) $$ He Hp FsR6; iintro ⟨Hp, HoR0⟩
  iapply (reclaim I K c (sL 5) rfl rfl outLM moves_outL (P := iprop(∃ f, outLAt c 1 f)) rfl) $$ He Hp FsL5; iintro ⟨Hp, HoL1⟩
  iapply (reclaim I K c (sL 6) rfl rfl outLM moves_outL (P := iprop(∃ f, outLAt c 0 f)) rfl) $$ He Hp FsL6; iintro ⟨Hp, HoL0⟩
  iapply Hk
  isplitl [Hp]; · iexact Hp
  isplitl [HE]; · iexact HE
  isplitl [Hx]; · iexact Hx
  isplitl [Hw]; · iexact Hw
  isplitl [Hres]
  · rw [← both_halves I c (i0 := inb_S512x512_S512x256_0_0) (i1 := inb_S512x512_S512x256_0_256) f]
    iexact Hres
  isplitl [HaR]; · iexact HaR
  isplitl [HaL]; · iexact HaL
  isplitl [HoR0]; · iexact HoR0
  isplitl [HoR1]; · iexact HoR1
  isplitl [HoL0]; · iexact HoL0
  iexact HoL1

end Cert.KernelIdeal.Moe

end
-- ==== Proof.Body.lean ====
/-
A device's whole run: the buffers cut into slots, the eight steps one after the other, the slots put together again.
-/
module

public import proofs.«01_k».proof.Proof.Open
public import proofs.«01_k».proof.Proof.Steps
public import proofs.«01_k».proof.Proof.Close

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-- A device's seven buffers, at any contents. -/
def scratch : sProp 𝕄 :=
  iprop((∃ f : Vec F S8x512x256 .bf16, (c : Thread nD τ).loc cc0_scratch0 ↦{fullShare} f)
    ∗ (∃ f : Vec F S8x512x32 .bf16, (c : Thread nD τ).loc cc0_scratch1 ↦{fullShare} f)
    ∗ (∃ f : Vec F S4x256x512 .bf16, (c : Thread nD τ).loc cc0_scratch2 ↦{fullShare} f)
    ∗ (∃ f : Vec F S7x512x256 .bf16, (c : Thread nD τ).loc cc0_scratch3 ↦{fullShare} f)
    ∗ (∃ f : Vec F S7x512x256 .bf16, (c : Thread nD τ).loc cc0_scratch4 ↦{fullShare} f)
    ∗ (∃ f : Vec F S2x512x256 .bf16, (c : Thread nD τ).loc cc0_scratch5 ↦{fullShare} f)
    ∗ (∃ f : Vec F S2x512x256 .bf16, (c : Thread nD τ).loc cc0_scratch6 ↦{fullShare} f))

omit [FloatOps F] in
/-- The buffers that copies land in, cut: the slots for right-going copies, those for left-going ones, the device's own. -/
theorem cut_slots (fx : Vec F S8x512x256 .bf16) (fw : Vec F S8x512x32 .bf16) (fr fl : Vec F S7x512x256 .bf16) :
    iprop(((c : Thread nD τ).loc cc0_scratch0 ↦{fullShare} fx) ∗ ((c : Thread nD τ).loc cc0_scratch1 ↦{fullShare} fw)
        ∗ ((c : Thread nD τ).loc cc0_scratch3 ↦{fullShare} fr) ∗ ((c : Thread nD τ).loc cc0_scratch4 ↦{fullShare} fl))
      ⊢ (iprop(every (fun q => landAt q c) rights ∗ every (fun q => landAt q c) lefts
          ∗ xAt c (rel c 0) fullShare fx ∗ wAt c (rel c 0) fullShare fw) : sProp 𝕄) := by
  have ex := x_slots c fx
  have ew := w_slots c fw
  have er := arrR_slots c fr
  have el := arrL_slots c fl
  simp only [every] at ex ew er el
  iintro ⟨Hx, Hw, Hr, Hl⟩
  ihave Hx := (Entails.of_eq ex) $$ Hx
  ihave Hw := (Entails.of_eq ew) $$ Hw
  ihave Hr := (Entails.of_eq er) $$ Hr
  ihave Hl := (Entails.of_eq el) $$ Hl
  icases Hx with ⟨X0, X1, X2, X3, X4, X5, X6, X7, -⟩
  icases Hw with ⟨W0, W1, W2, W3, W4, W5, W6, W7, -⟩
  icases Hr with ⟨R0, R1, R2, R3, R4, R5, R6, -⟩
  icases Hl with ⟨L0, L1, L2, L3, L4, L5, L6, -⟩
  isplitl [X7 X6 X5 X4 W7 W6 W5 W4 R0 R1 R2 R3 R4 R5 R6]
  · simp only [rights, every, landAt]
    isplitl [X7]; · iexists fx; iexact X7
    isplitl [X6]; · iexists fx; iexact X6
    isplitl [X5]; · iexists fx; iexact X5
    isplitl [X4]; · iexists fx; iexact X4
    isplitl [W7]; · iexists fw; iexact W7
    isplitl [W6]; · iexists fw; iexact W6
    isplitl [W5]; · iexists fw; iexact W5
    isplitl [W4]; · iexists fw; iexact W4
    isplitl [R0]; · iexists fr; iexact R0
    isplitl [R1]; · iexists fr; iexact R1
    isplitl [R2]; · iexists fr; iexact R2
    isplitl [R3]; · iexists fr; iexact R3
    isplitl [R4]; · iexists fr; iexact R4
    isplitl [R5]; · iexists fr; iexact R5
    isplitl [R6]; · iexists fr; iexact R6
    iempintro
  isplitl [X1 X2 X3 W1 W2 W3 L0 L1 L2 L3 L4 L5 L6]
  · simp only [lefts, every, landAt]
    isplitl [X1]; · iexists fx; iexact X1
    isplitl [X2]; · iexists fx; iexact X2
    isplitl [X3]; · iexists fx; iexact X3
    isplitl [W1]; · iexists fw; iexact W1
    isplitl [W2]; · iexists fw; iexact W2
    isplitl [W3]; · iexists fw; iexact W3
    isplitl [L0]; · iexists fl; iexact L0
    isplitl [L1]; · iexists fl; iexact L1
    isplitl [L2]; · iexists fl; iexact L2
    isplitl [L3]; · iexists fl; iexact L3
    isplitl [L4]; · iexists fl; iexact L4
    isplitl [L5]; · iexists fl; iexact L5
    isplitl [L6]; · iexists fl; iexact L6
    iempintro
  isplitl [X0]; · iexact X0
  iexact W0

theorem wp_end {Q : PUnit → sProp 𝕄} : Q ⟨⟩ ⊢ WP c (st8.tail : Prog (TpuEff nD τ sig (Elt F) Λ₀ .tc) PUnit) Q := by
  show _ ⊢ wp frame (wpE (defs₀ (F := F)) 𝒱₀ (c : Thread nD τ) none) Set.univ (.ret ⟨⟩) Q
  rw [wp_ret]
  iintro H
  imodintro
  iexact H

/-- What a device's run leaves. -/
def done : sProp 𝕄 :=
  iprop((∃ W : Waits sig Unit, owes (c : Thread nD τ) 0 W) ∗ ins I c ∗ resAt c (I.res c) ∗ scratch c ∗ semVal (barCell c) 0
    ∗ bigSep Finset.univ fun p => shut c p)

/-- A device's run. -/
theorem run_body {Q : PUnit → sProp 𝕄} {W : Waits sig Unit} {f : Vec F S512x512 .f32} :
    env I K ⊢ iprop(hello c -∗ owes (c : Thread nD τ) (owed₀ c) W -∗ ins I c -∗ resAt c f -∗ scratch c -∗ (done I c -∗ Q ⟨⟩)
      -∗ WP c (flat (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _)
          xM (Memref.isWhole_whole _) wM (Memref.isWhole_whole _) eM (Memref.isWhole_whole _) arrRM (Memref.isWhole_whole _)
          arrLM (Memref.isWhole_whole _) outRM (Memref.isWhole_whole _) outLM (Memref.isWhole_whole _)
          cc0_scratch7 cc0_scratch8 cc0_scratch9 cc0_scratch10 cc0_scratch11 cc0_scratch12 cc0_scratch13 cc0_scratch14
          cc0_scratch15 cc0_scratch16 cc0_scratch17 cc0_scratch18) Q) := by
  unfold scratch
  iintro #He Hh HO Hi Hres ⟨⟨%fx, Hx⟩, ⟨%fw, Hw⟩, ⟨%fe, HE⟩, ⟨%fr, Hr⟩, ⟨%fl, Hl⟩, ⟨%gr, Hgr⟩, ⟨%gl, Hgl⟩⟩ Hk
  ihave Hc := (cut_slots c fx fw fr fl) $$ [Hx Hw Hr Hl]
  · isplitl [Hx]; · iexact Hx
    isplitl [Hw]; · iexact Hw
    isplitl [Hr] <;> iassumption
  icases Hc with ⟨HR, HL, Hx0, Hw0⟩
  have egr := outR_slots c gr
  have egl := outL_slots c gl
  simp only [every] at egr egl
  ihave Hgr := (Entails.of_eq egr) $$ Hgr
  ihave Hgl := (Entails.of_eq egl) $$ Hgl
  icases Hgr with ⟨HoR0, HoR1, -⟩
  icases Hgl with ⟨HoL0, HoL1, -⟩
  rw [st1.eq]
  iapply (step0 I K c) $$ He Hh HO HR HL Hi Hx0 Hw0 HE HoR0 HoL0
  iintro ⟨Hp, Hz, Hi, FxR, FwR, FxL, FwL, FsR0, FsL0, HE, Hx7, Hw7, Hx1, Hw1⟩
  rw [st2.eq]
  iapply (step1 I K c) $$ He Hp FxR FwR FxL FwL HE Hx7 Hw7 Hx1 Hw1 HoR1 HoL1
  iintro ⟨Hp, FxR, FwR, FxL, FwL, FsR1, FsL1, HE, Hx0l, Hw0l, Hx0r, Hw0r, Hx6, Hw6, Hx2, Hw2, Hr0, Hl0⟩
  rw [st3.eq]
  iapply (step2 I K c) $$ He Hp FsR0 FsL0 FxR FwR FxL FwL HE Hx6 Hw6 Hx2 Hw2
  iintro ⟨Hp, FxR, FwR, FxL, FwL, FsR2, FsL2, HE, Hx7, Hw7, Hx1, Hw1, Hx5, Hw5, Hx3, Hw3, Hr1, Hl1⟩
  rw [st4.eq]
  iapply (step3 I K c) $$ He Hp FsR1 FsL1 FxR FwR FxL FwL HE Hx5 Hw5
  iintro ⟨Hp, FxR, FwR, FsR3, FsL3, HE, Hx6, Hw6, Hx2, Hw2, Hx4, Hw4, Hr2, Hl2⟩
  rw [st5.eq]
  iapply (step4 I K c) $$ He Hp FsR2 FsL2 FxR FwR HE Hx3 Hw3
  iintro ⟨Hp, FsR4, FsL4, HE, Hx3, Hw3, Hx5, Hw5, Hr3, Hl3⟩
  rw [st6.eq]
  iapply (step5 I K c) $$ He Hp FsR3 FsL3 HE Hx2 Hw2 Hx6 Hw6
  iintro ⟨Hp, FsR5, FsL5, HE, Hx2, Hw2, Hx6, Hw6, Hr4, Hl4⟩
  rw [st7.eq]
  iapply (step6 I K c) $$ He Hp FsR4 FsL4 HE Hx1 Hw1 Hx7 Hw7
  iintro ⟨Hp, FsR6, FsL6, HE, Hx1, Hw1, Hx7, Hw7, Hr5, Hl5⟩
  ihave Hx0 := (x_halves c (rel c 0) I.toks).2 $$ [Hx0l Hx0r]
  · isplitl [Hx0l] <;> iassumption
  ihave Hw0 := (w_halves c (rel c 0) I.gates).2 $$ [Hw0l Hw0r]
  · isplitl [Hw0l] <;> iassumption
  rw [st8.eq]
  iapply (step7 I K c) $$ He Hp FsR5 FsL5 FsR6 FsL6 HE Hx0 Hw0 Hres
  iintro ⟨Hp, HE, Hx0, Hw0, Hres, Hr6, Hl6, HoR0, HoR1, HoL0, HoL1⟩
  iapply (wp_end (F := F) c)
  iapply Hk
  unfold done scratch
  unfold prot
  icases Hp with ⟨-, -, Hs, ⟨%W', HO⟩⟩
  isplitl [HO]; · iexists W'; iexact HO
  isplitl [Hi]; · iexact Hi
  isplitl [Hres]; · iexact Hres
  isplitr [Hz Hs]
  · isplitl [Hx0 Hx1 Hx2 Hx3 Hx4 Hx5 Hx6 Hx7]
    · iexists I.toks
      rw [x_slots c I.toks]
      simp only [every]
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      iempintro
    isplitl [Hw0 Hw1 Hw2 Hw3 Hw4 Hw5 Hw6 Hw7]
    · iexists I.gates
      rw [w_slots c I.gates]
      simp only [every]
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      iempintro
    isplitl [HE]
    · unfold eAt; iexists (I.slabs c); iexact HE
    isplitl [Hr0 Hr1 Hr2 Hr3 Hr4 Hr5 Hr6]
    · iexists (I.arrR c)
      rw [arrR_slots c (I.arrR c)]
      simp only [every]
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iempintro
    isplitl [Hl0 Hl1 Hl2 Hl3 Hl4 Hl5 Hl6]
    · iexists (I.arrL c)
      rw [arrL_slots c (I.arrL c)]
      simp only [every]
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      iempintro
    isplitl [HoR0 HoR1]
    · iapply (outR_join c gr)
      simp only [every]
      isplitl [HoR0]; · iexact HoR0
      isplitl [HoR1]; · iexact HoR1
      iempintro
    iapply (outL_join c gl)
    simp only [every]
    isplitl [HoL0]; · iexact HoL0
    isplitl [HoL1]; · iexact HoL1
    iempintro
  isplitl [Hz]; · iexact Hz
  have e := every_univ (shut (F := F) c) waits waits_nodup mem_waits
  iapply (Entails.of_eq e)
  iexact Hs

end Cert.KernelIdeal.Moe

end
-- ==== Proof.Start.lean ====
/-
What a device has before its run: the cells' invariants put up for all devices at once, the duties' tokens dealt to the
devices that pay them, and a credit for every unit a device will wait for.
-/
module

public import proofs.«01_k».proof.Proof.Body
public import proofs.«01_k».proof.Proof.Gen.KernelIdeal.Launch

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (I : Inputs F) (K : Dev nD × Option (Cp × Bool) → ℕ) (c : Dev nD)

/-! ## The cells and the tokens -/

/-- The kernel's own semaphores, two for each copy. -/
abbrev osem : Cp × Bool → SemLoc sig := fun p => .dma (semIx p)

theorem ownSemFacts : Pipeline.OwnSemFacts cfg0.spec osem where
  isScoped := by decide +kernel
  inj := fun p p' h => semIx_inj p p' (by injection h)
  disj := by decide +kernel

abbrev kcell (x : Dev nD × Option (Cp × Bool)) : GSem nD τ sig := cell x.1 x.2

theorem cpOf_semOf (o : Option (Cp × Bool)) : cpOf (semOf o) = o := by
  cases o with
  | none => exact cpOf_none
  | some p => exact cpOf_some p

theorem kcell_injective : Function.Injective kcell := by
  rintro ⟨c, o⟩ ⟨c', o'⟩ h
  have h1 : c = c' := congrArg (fun g : GSem nD τ sig => g.1.1) h
  have h2 : semOf o = semOf o' := congrArg Prod.snd h
  have h3 : o = o' := by rw [← cpOf_semOf o, h2, cpOf_semOf]
  rw [h1, h3]

def allCells : Finset (GSem nD τ sig) := Finset.univ.map ⟨kcell, kcell_injective⟩

/-- A device's duties: the two of its barrier, one for each of its copies' semaphores. -/
abbrev tokOf (x : Dev nD × (Bool ⊕ Cp × Bool)) : GSem nD τ sig × ℕ × Bool := match x.2 with
  | .inl d => (barCell x.1, 0, d)
  | .inr p => (cell x.1 (some p), 0, false)

theorem tokOf_injective : Function.Injective tokOf := by
  rintro ⟨c, j⟩ ⟨c', j'⟩ h
  cases j with
  | inl d => cases j' with
    | inl d' =>
      have h1 : (c, (none : Option (Cp × Bool))) = (c', none) := kcell_injective (congrArg Prod.fst h)
      have h2 : d = d' := congrArg (fun x : GSem nD τ sig × ℕ × Bool => x.2.2) h
      have h3 : c = c' := congrArg Prod.fst h1
      rw [h3, h2]
    | inr p' =>
      have h1 : (c, (none : Option (Cp × Bool))) = (c', some p') := kcell_injective (congrArg Prod.fst h)
      cases congrArg Prod.snd h1
  | inr p => cases j' with
    | inl d' =>
      have h1 : (c, some p) = (c', (none : Option (Cp × Bool))) := kcell_injective (congrArg Prod.fst h)
      cases congrArg Prod.snd h1
    | inr p' =>
      have h1 : (c, some p) = (c', some p') := kcell_injective (congrArg Prod.fst h)
      have h2 : some p = some p' := congrArg Prod.snd h1
      have h3 : c = c' := congrArg Prod.fst h1
      rw [h3, Option.some.inj h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own cells. -/
def toks₀ : sProp 𝕄 :=
  iprop((bigSep Finset.univ fun d : Bool => dutyTok ER (barCell c) 0 d)
    ∗ bigSep Finset.univ fun p : Cp × Bool => dutyTok ER (cell c (some p)) 0 false)

/-- What the launch deals device `c`. -/
def G : sProp 𝕄 :=
  iprop((bigSep Finset.univ fun o => roundState ER (sched I) (kcell (c, o)) 0)
    ∗ (bigSep Finset.univ fun o => iprop(atPos ER (kcell (c, o)) 0 ∅ 0 ∗ reached ER (kcell (c, o)) 0)) ∗ toks₀ c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun o => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks₀ c := by
    unfold allToks; rw [bigSep_map, bigSep_univ_prod]
    exact bigSep_congr fun c _ => by unfold toks₀; rw [bigSep_univ_sum]; rfl
  iintro HX
  imod (Rounds.fund ER (sched I) allCells allToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
/-- One thing per semaphore of the exchange: the barrier's, and the copies'. -/
theorem bigSep_opt (Φ : Option (Cp × Bool) → sProp 𝕄) :
    bigSep Finset.univ Φ = iprop(Φ none ∗ bigSep Finset.univ fun p => Φ (some p)) := by
  rw [bigSep_univ_equiv (Equiv.optionEquivSumPUnit.{0} (Cp × Bool)).symm Φ, bigSep_univ_sum, bigSep_univ_of_subsingleton PUnit.unit]
  exact BI.Entails.antisymm BI.sep_comm BI.sep_comm

omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem sems0 :
    iprop(Pipeline.ownSems0 (Ix := Unit) (Name := ℕ) (U := UU) (Lvl := ℕ) (Val := Elt F) (τ := τ) osem c ∗ unscopedSems0 c)
      ⊢ (bigSep Finset.univ fun o => semVal (kcell (c, o)) 0 : sProp 𝕄) := by
  rw [unscopedSems0_eq, bigSep_opt]
  unfold Pipeline.ownSems0
  iintro ⟨H, HB⟩
  isplitl [HB] <;> iassumption

theorem core_alloc :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun o => iprop(∃ κ : ℕ, cellInv ER (sched I) κ (kcell (c, o))))
          ∗ (bigSep Finset.univ fun o => iprop(atPos ER (kcell (c, o)) 0 ∅ 0 ∗ reached ER (kcell (c, o)) 0)) ∗ toks₀ c) := by
  unfold G
  iintro ⟨Hos, Hus, Hst, Hat, Htok⟩
  ihave Hv := (sems0 (F := F) c) $$ [Hos Hus]
  · isplitl [Hos] <;> iassumption
  have ha : iprop((bigSep Finset.univ fun o => semVal (kcell (c, o)) 0) ∗ bigSep Finset.univ fun o => roundState ER (sched I) (kcell (c, o)) 0)
      ⊢ (|={Set.univ}=> bigSep Finset.univ fun o => iprop(∃ κ : ℕ, cellInv ER (sched I) κ (kcell (c, o))) : sProp 𝕄) := by
    rw [← bigSep_sep']
    exact (bigSep_mono fun o _ => (Rounds.body_intro ER (sched I) (kcell (c, o))).trans inv_alloc).trans (bigSep_fupd _ _)
  imod ha $$ [Hv Hst] with Hinv
  · isplitl [Hv] <;> iassumption
  imodintro
  isplitl [Hinv]; · iexact Hinv
  isplitl [Hat]; · iexact Hat
  iexact Htok

/-! ## The tokens dealt -/

/-- What device `c` holds besides what all know: its positions, and the tokens of the duties it pays. -/
def share : sProp 𝕄 :=
  iprop((bigSep Finset.univ fun o => atPos ER (kcell (c, o)) 0 ∅ 0)
    ∗ dutyTok ER (barCell (prv c)) 0 true ∗ dutyTok ER (barCell (nxt c)) 0 false
    ∗ (bigSep Finset.univ fun q => dutyTok ER (sendCell c q) 0 false)
    ∗ bigSep Finset.univ fun q => dutyTok ER (recvCell (dst q c) q) 0 false)

/-- What a device has after the invariants are up. -/
def G' : sProp 𝕄 := iprop(∃ K, records I K ∗ share c)

omit [FloatOps F] in
theorem bigSep_bool (Φ : Bool → sProp 𝕄) : bigSep Finset.univ Φ = iprop(Φ false ∗ Φ true) := by
  rw [bigSep_univ_eq_bigSepL [false, true] (by decide) (by decide)]; rfl

omit [FloatOps F] in
/-- One thing per copy and side. -/
theorem bigSep_cp (Φ : Cp × Bool → sProp 𝕄) :
    bigSep Finset.univ Φ = iprop((bigSep Finset.univ fun q => Φ (q, false)) ∗ bigSep Finset.univ fun q => Φ (q, true)) := by
  rw [bigSep_univ_prod, ← bigSep_sep']
  exact bigSep_congr fun q _ => bigSep_bool _

omit [FloatOps F] in
/-- The tokens of all devices' cells, dealt to the devices that pay the duties. -/
theorem toks_around : (bigSep Finset.univ fun c : Dev nD => (toks₀ c : sProp 𝕄))
    ⊢ bigSep Finset.univ fun c : Dev nD => iprop(dutyTok ER (barCell (prv c)) 0 true ∗ dutyTok ER (barCell (nxt c)) 0 false
        ∗ (bigSep Finset.univ fun q => dutyTok ER (sendCell c q) 0 false)
        ∗ bigSep Finset.univ fun q => (dutyTok ER (recvCell (dst q c) q) 0 false : sProp 𝕄)) := by
  have e : (fun c : Dev nD => (toks₀ c : sProp 𝕄)) = fun c => iprop((dutyTok ER (barCell c) 0 false ∗ dutyTok ER (barCell c) 0 true)
      ∗ (bigSep Finset.univ fun q => dutyTok ER (sendCell c q) 0 false) ∗ bigSep Finset.univ fun q => dutyTok ER (recvCell c q) 0 false) := by
    funext c; unfold toks₀; rw [bigSep_bool, bigSep_cp]
  have er : (bigSep Finset.univ fun c : Dev nD => bigSep Finset.univ fun q : Cp => (dutyTok ER (recvCell c q) 0 false : sProp 𝕄))
      = bigSep Finset.univ fun c : Dev nD => bigSep Finset.univ fun q : Cp => dutyTok ER (recvCell (dst q c) q) 0 false := by
    rw [bigSep_univ_comm, bigSep_univ_comm (fun (c : Dev nD) (q : Cp) => (dutyTok ER (recvCell (dst q c) q) 0 false : sProp 𝕄))]
    exact bigSep_congr fun q _ => bigSep_univ_equiv (dstEquiv q) (fun c => (dutyTok ER (recvCell c q) 0 false : sProp 𝕄))
  rw [e]
  simp only [bigSep_sep']
  rw [er, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H2]; · iexact H2
  isplitl [H1]; · iexact H1
  isplitl [H3] <;> iassumption

omit [FloatOps F] in
theorem bigSep_with {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o => iprop(∃ κ : ℕ, cellInv ER (sched I) κ (kcell (c, o))))
          ∗ (bigSep Finset.univ fun o => iprop(atPos ER (kcell (c, o)) 0 ∅ 0 ∗ reached ER (kcell (c, o)) 0)) ∗ toks₀ c) : sProp 𝕄)
      ⊢ bigSep Finset.univ (G' I) := by
  have ep : (bigSep Finset.univ fun c : Dev nD => bigSep Finset.univ fun o => iprop(atPos ER (kcell (c, o)) 0 ∅ 0 ∗ reached ER (kcell (c, o)) 0))
      = iprop((bigSep Finset.univ fun c : Dev nD => bigSep Finset.univ fun o => (atPos ER (kcell (c, o)) 0 ∅ 0 : sProp 𝕄))
          ∗ bigSep Finset.univ fun x : Dev nD × Option (Cp × Bool) => reached ER (kcell x) 0) := by
    rw [bigSep_univ_prod (fun x : Dev nD × Option (Cp × Bool) => (reached ER (kcell x) 0 : sProp 𝕄)), ← bigSep_sep']
    exact bigSep_congr fun c _ => bigSep_sep' _ _ _
  rw [bigSep_sep', bigSep_sep', ← bigSep_univ_prod (fun x : Dev nD × Option (Cp × Bool) => iprop(∃ κ : ℕ, cellInv ER (sched I) κ (kcell x))), ep]
  iintro ⟨HI, ⟨Hat, #HR⟩, Htok⟩
  ihave HK := (BI.bigSep_exists_pi Finset.univ (fun (x : Dev nD × Option (Cp × Bool)) (κ : ℕ) => (cellInv ER (sched I) κ (kcell x) : sProp 𝕄))) $$ HI
  icases HK with ⟨%K, #HI⟩
  ihave Htk := (toks_around (F := F)) $$ Htok
  have hg : ∀ c ∈ Finset.univ, iprop(records I K ∗ share c) ⊢ G' I c := fun c _ => by
    unfold G'; iintro H; iexists K; iexact H
  iapply (bigSep_with (R := records I K) hg)
  isplitr
  · unfold records; isplitl; · iexact HI
    iexact HR
  · unfold share
    iapply (Entails.of_eq (bigSep_sep' Finset.univ (fun c : Dev nD => bigSep Finset.univ fun o => (atPos ER (kcell (c, o)) 0 ∅ 0 : sProp 𝕄)) _).symm)
    isplitl [Hat]; · iexact Hat
    iexact Htk

/-- The invariants up on every device, and the tokens dealt. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

omit [FloatOps F] in
/-- A credit for every arrival. -/
theorem creds_for (l : List Cp) : (Pipeline.launchCred (fun d => owedFor d l) c : sProp 𝕄)
    ⊢ every (fun q => cred (tallyAt (recvCell c q) () (units q))) l := by
  induction l with
  | nil => iintro -; unfold every; iempintro
  | cons q l ih =>
    have e : (Pipeline.launchCred (fun d => owedFor d (q :: l)) c : sProp 𝕄)
        = iprop(Pipeline.launchCred (fun d => owedFor d l) c ∗ Pipeline.launchCred (fun d => tallyAt (recvCell (dst q d) q) () (units q)) c) :=
      Pipeline.launchCred_add _ _ c
    rw [e, every_cons]
    iintro ⟨H1, H2⟩
    isplitl [H2]
    · iapply (Pipeline.launchCred_tallyAt (.dma (semIx (q, true))) (dst q) (src q) (dst_src q) (src_dst q) () (units q) c); iexact H2
    iapply ih; iexact H1

omit [FloatOps F] in
theorem creds : (Pipeline.launchCred owed₀ c : sProp 𝕄)
    ⊢ iprop(cred (tallyAt (barCell c) () 2) ∗ bigSep Finset.univ fun q => cred (tallyAt (recvCell c q) () (units q))) := by
  have e1 : (Pipeline.launchCred owed₀ c : sProp 𝕄)
      = iprop(Pipeline.launchCred owed₁ c ∗ Pipeline.launchCred (fun d => tallyAt (barCell (prv d)) () 1) c) := Pipeline.launchCred_add _ _ c
  have e2 : (Pipeline.launchCred owed₁ c : sProp 𝕄)
      = iprop(Pipeline.launchCred (fun d => owedFor d issue) c ∗ Pipeline.launchCred (fun d => tallyAt (barCell (nxt d)) () 1) c) := Pipeline.launchCred_add _ _ c
  have e3 : iprop(cred (tallyAt (barCell c) () 1) ∗ cred (tallyAt (barCell c) () 1)) ⊢ (cred (tallyAt (barCell c) () 2) : sProp 𝕄) := by
    have := (cred_add (tallyAt (barCell c) () 1) (tallyAt (barCell c) () 1) : _ ⊣⊢ (_ : sProp 𝕄)).2
    rwa [tallyAt_add] at this
  rw [e1, e2, ← every_univ _ issue issue_nodup mem_issue]
  iintro ⟨⟨H1, H2⟩, H3⟩
  isplitl [H2 H3]
  · iapply e3
    isplitl [H2]
    · iapply (Pipeline.launchCred_tallyAt (.reg barS) nxt prv nxt_prv prv_nxt () 1 c); iexact H2
    iapply (Pipeline.launchCred_tallyAt (.reg barS) prv nxt prv_nxt nxt_prv () 1 c); iexact H3
  iapply (creds_for c issue); iexact H1

/-- What a device starts its run with. -/
def start : sProp 𝕄 := iprop(∃ K, env I K ∗ hello c)

theorem start_of : iprop(G' I c ∗ levAts L lv ∗ Pipeline.launchCred owed₀ c) ⊢ start I c := by
  have es : iprop((bigSep Finset.univ fun q => dutyTok ER (sendCell c q) 0 false) ∗ (bigSep Finset.univ fun q => dutyTok ER (recvCell (dst q c) q) 0 false)
      ∗ bigSep Finset.univ fun q => atPos ER (sendCell c q) 0 ∅ 0) ⊢ (bigSep Finset.univ fun q => stub c q : sProp 𝕄) := by
    unfold stub; rw [bigSep_sep', bigSep_sep']
  have ec : iprop((bigSep Finset.univ fun q => atPos ER (recvCell c q) 0 ∅ 0) ∗ bigSep Finset.univ fun q => cred (tallyAt (recvCell c q) () (units q)))
      ⊢ (bigSep Finset.univ fun p => coming c p : sProp 𝕄) := by
    rw [bigSep_cp, ← bigSep_sep']
    have e0 : (bigSep Finset.univ fun q : Cp => (coming c (q, false) : sProp 𝕄)) = iprop(emp) := BI.bigSep_emp_const _
    rw [e0]
    have e1 : (fun q : Cp => (coming c (q, true) : sProp 𝕄)) = fun q => iprop(atPos ER (recvCell c q) 0 ∅ 0 ∗ cred (tallyAt (recvCell c q) () (units q))) := rfl
    rw [e1]
    iintro H
    isplitr; · iempintro
    iexact H
  unfold G' share start env hello
  rw [bigSep_opt, bigSep_cp]
  iintro ⟨⟨%K, HR, ⟨HaB, HaS, HaV⟩, HtP, HtN, HtS, HtV⟩, Hl, Hc⟩
  ihave Hc := (creds (F := F) c) $$ Hc
  icases Hc with ⟨HcB, HcV⟩
  iexists K
  isplitl [HR Hl]
  · isplitl [HR] <;> iassumption
  isplitl [HaB]; · iexact HaB
  isplitl [HcB]; · iexact HcB
  isplitl [HtP]; · iexact HtP
  isplitl [HtN]; · iexact HtN
  isplitl [HtS HtV HaS]
  · iapply es
    isplitl [HtS]; · iexact HtS
    isplitl [HtV] <;> iassumption
  iapply ec
  isplitl [HaV] <;> iassumption

end Cert.KernelIdeal.Moe

end
-- ==== Proof.Run.lean ====
/-
The launch: every run of the kernel ends, with every semaphore at zero, the arguments as they were and each device's
result array holding `Inputs.res` of the arguments.
-/
module

public import proofs.«01_k».proof.Proof.Start
public import Idealize.ShloMosaic.Lib.Pipeline.ValueKit.Geometry
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cp

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The arguments as the run finds them. -/
def inputs : Inputs F where
  x c := m ((c : Thread nD τ).loc main_arg0)
  r c := m ((c : Thread nD τ).loc main_arg1)
  idx c := m ((c : Thread nD τ).loc main_arg2)
  e c := m ((c : Thread nD τ).loc main_arg3)

/-! ## The pipeline's data -/

/-- Before the one point: what the device starts with, and its scratch buffers. -/
def before₀ : sProp 𝕄 := iprop(start (inputs m) c ∗ scratch c)
/-- After it: the scratch buffers and every semaphore of the exchange closed at zero. -/
def after₀ : sProp 𝕄 := iprop(scratch c ∗ semVal (barCell c) 0 ∗ bigSep Finset.univ fun p => shut c p)

def dats (_ : Fin 1) (c : Dev nD) : Dat τ (Elt F) Unit ℕ UU ℕ cfg0 c where
  A w := m ((cfg0.win w).arr.view.loc (c : Thread nD τ))
  after w _ := match w with
    | ⟨0, _⟩ => (inputs m).x c
    | ⟨1, _⟩ => (inputs m).r c
    | ⟨2, _⟩ => (inputs m).idx c
    | ⟨3, _⟩ => (inputs m).e c
    | ⟨4, _⟩ => (inputs m).res c
  Φ t := match t with
    | ⟨0, _⟩ => before₀ m c
    | ⟨_ + 1, _⟩ => after₀ c
  q _ := fullShare
  owed t := match t with
    | ⟨0, _⟩ => owed₀ c
    | ⟨_ + 1, _⟩ => 0

/-! ## The windows' blocks are the arrays -/

set_option maxRecDepth 8000 in
/-- The one block of an input window whose block is the whole array. -/
theorem emb_eq (w : Fin cfg0.W) (h : ∀ a, (cfg0.win w).index t0_0 a = 0) (y : ((cfg0.win w).xblock (cfg0.grid.coords t0_0)).Idx) (a) :
    (((cfg0.win w).rect t0_0).emb y a).val = (y a).val :=
  Window.rect_emb_val_of_index_zero _ _ _ (h a) _

theorem before_0 (d) : (dats m 0 c).before (0 : Fin 5) t0_0 d = (inputs m).x c := by
  unfold Dat.before; rw [if_pos (by rfl)]; funext y; exact congrArg (m ((c : Thread nD τ).loc main_arg0)) (funext fun a => Fin.ext (emb_eq (0 : Fin 5) (by decide +kernel) y a))
theorem before_1 (d) : (dats m 0 c).before (1 : Fin 5) t0_0 d = (inputs m).r c := by
  unfold Dat.before; rw [if_pos (by rfl)]; funext y; exact congrArg (m ((c : Thread nD τ).loc main_arg1)) (funext fun a => Fin.ext (emb_eq (1 : Fin 5) (by decide +kernel) y a))
theorem before_2 (d) : (dats m 0 c).before (2 : Fin 5) t0_0 d = (inputs m).idx c := by
  unfold Dat.before; rw [if_pos (by rfl)]; funext y; exact congrArg (m ((c : Thread nD τ).loc main_arg2)) (funext fun a => Fin.ext (emb_eq (2 : Fin 5) (by decide +kernel) y a))
theorem before_3 (d) : (dats m 0 c).before (3 : Fin 5) t0_0 d = (inputs m).e c := by
  unfold Dat.before; rw [if_pos (by rfl)]; funext y; exact congrArg (m ((c : Thread nD τ).loc main_arg3)) (funext fun a => Fin.ext (emb_eq (3 : Fin 5) (by decide +kernel) y a))

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer holding `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(before₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost : sProp 𝕄 :=
  iprop(after₀ c ∗ (dats m 0 c).owesAt () t0_0.succ
    ∗ stg c cc0_stg0_0 ((inputs m).x c) ∗ stg c cc0_stg1_0 ((inputs m).r c) ∗ stg c cc0_stg2_0 ((inputs m).idx c)
    ∗ stg c cc0_stg3_0 ((inputs m).e c) ∗ stg c cc0_stg4_0 ((inputs m).res c))

theorem body_post : done (inputs m) c ⊢ bodyPost m c := by
  unfold done bodyPost after₀ Dat.owesAt Pipeline.owesWithin ins resAt
  rw [show (dats m 0 c).owed t0_0.succ = 0 from rfl]
  iintro ⟨⟨%W, HO⟩, ⟨H0, H1, H2, H3⟩, H4, Hs, Hb, Hz⟩
  isplitl [Hs Hb Hz]
  · isplitl [Hs]; · iexact Hs
    isplitl [Hb] <;> iassumption
  isplitl [HO]
  · iexists W
    isplitr
    · ipureintro; exact fun _ _ => Or.inl trivial
    iexact HO
  isplitl [H0]
  · iexists ((inputs m).x c); isplitr
    · ipureintro; rfl
    iexact H0
  isplitl [H1]
  · iexists ((inputs m).r c); isplitr
    · ipureintro; rfl
    iexact H1
  isplitl [H2]
  · iexists ((inputs m).idx c); isplitr
    · ipureintro; rfl
    iexact H2
  isplitl [H3]
  · iexists ((inputs m).e c); isplitr
    · ipureintro; rfl
    iexact H3
  iexists ((inputs m).res c); isplitr
  · ipureintro; rfl
  iexact H4

theorem body_run :
    bodyPre m c ⊢ WP c (flat (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) xM (Memref.isWhole_whole _) wM (Memref.isWhole_whole _) eM (Memref.isWhole_whole _)
      arrRM (Memref.isWhole_whole _) arrLM (Memref.isWhole_whole _) outRM (Memref.isWhole_whole _) outLM (Memref.isWhole_whole _)
      cc0_scratch7 cc0_scratch8 cc0_scratch9 cc0_scratch10 cc0_scratch11 cc0_scratch12 cc0_scratch13 cc0_scratch14 cc0_scratch15
      cc0_scratch16 cc0_scratch17 cc0_scratch18) (fun _ => bodyPost m c) := by
  unfold bodyPre before₀ start Dat.owesAt Pipeline.owesWithin
  rw [show (dats m 0 c).owed t0_0.castSucc = owed₀ c from rfl]
  iintro ⟨⟨⟨%K, He, Hh⟩, Hs⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  rw [before_0] at h0; rw [before_1] at h1; rw [before_2] at h2; rw [before_3] at h3
  subst h0; subst h1; subst h2; subst h3
  ihave Hw := (run_body (inputs m) K c (Q := fun _ => bodyPost m c) (W := W) (f := g4)) $$ He
  iapply Hw $$ Hh HO [H0 H1 H2 H3] [H4] Hs
  · unfold ins
    isplitl [H0]; · iexact H0
    isplitl [H1]; · iexact H1
    isplitl [H2] <;> iassumption
  · unfold resAt; iexact H4
  iintro H
  iapply (body_post m c); iexact H

set_option maxRecDepth 20000 in
/-- The body's obligation on a device. -/
theorem body_obligation : BodyObligation (dats m 0 c) (defs₀ (F := F)) 𝒱₀ () Set.univ := fun t => by
  rw [fin_N0 t]
  rw [bigSep_W0, bigSep_W0]
  simp only [owns_whole_eq]
  show bodyPre m c ⊢ WP c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) xM (Memref.isWhole_whole _) wM (Memref.isWhole_whole _) eM (Memref.isWhole_whole _)
      arrRM (Memref.isWhole_whole _) arrLM (Memref.isWhole_whole _) outRM (Memref.isWhole_whole _) outLM (Memref.isWhole_whole _)
      cc0_scratch7 cc0_scratch8 cc0_scratch9 cc0_scratch10 cc0_scratch11 cc0_scratch12 cc0_scratch13 cc0_scratch14 cc0_scratch15
      cc0_scratch16 cc0_scratch17 cc0_scratch18) (fun _ => bodyPost m c)
  rw [flat.eq]
  exact body_run m c

/-! ## The launch's side conditions -/

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owed₀ c ∗ prngReg c (ρ c) ∗ G' (inputs m) c)
      ⊢ |={Set.univ}=> iprop(start (inputs m) c ∗ emp) := by
  iintro ⟨-, Hlev, Hcr, -, HG⟩
  imodintro
  isplitl
  · iapply (start_of (inputs m) c)
    isplitl [HG]; · iexact HG
    isplitl [Hlev] <;> iassumption
  · iempintro

theorem scratch_eq : (Pipeline.scopedRest cfg0.spec c : sProp 𝕄) = scratch c := by
  rw [scopedRest0_eq]; rfl

theorem before₀_intro :
    iprop(start (inputs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scratch_eq]
  unfold before₀
  iintro ⟨Hs, -, Hr⟩
  isplitl [Hs] <;> iassumption

theorem after₀_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scratch_eq, unscopedSems0_eq]
  unfold after₀ Pipeline.ownSems0 shut
  iintro ⟨Hr, Hb, Hz⟩
  isplitl [Hb]; · iexact Hb
  isplitl [Hz] <;> iassumption

theorem stage_waits : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by revert c; fin_cases w <;> fin_cases s <;> decide +kernel)
    · exact BI.affine.trans (Entails.of_eq (MayWait_zero _ _ _).symm)

/-! ## The run -/

def finalA (c : Dev nD) (w : Fin cfg0.W) : Buf (Elt F) ((cfg0.win w).arr.view.loc (c : Thread nD τ)) := (dats m 0 c).arrAt w cfg0.N

set_option maxRecDepth 20000 in
/-- From any memory, with the semaphores at zero, every execution of the kernel on the eight devices ends, with the
    semaphores at zero and the windows' arrays at their final contents. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := stage_waits m)
    (G := G (inputs m)) (G' := G' (inputs m)) (u₀ := u₀)
    (hu₀ := by
      unfold u₀
      iintro Hu
      ihave H := (ownU_pair _ _) $$ Hu
      icases H with ⟨HP, HX⟩
      imod (fund_all (inputs m)) $$ HX with HG
      imodintro
      isplitl [HP] <;> iassumption)
    (hglob := glob (inputs m))
    (hA := fun _ _ => rfl) (hpf := fun _ k => k.elim0)
    (X := start (inputs m)) (Y := fun c => unscopedSems0 c) (Z := fun _ => iprop(emp))
    (hX := start_intro m ρ) (hin := before₀_intro m) (hout := after₀_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends holding what the body leaves in its staging buffer. -/
theorem final_res : finalA m c (4 : Fin 5) = (inputs m).res c := by
  refine (dats m 0 c).arrAt_eq_of_after_last (4 : Fin 5) t0_0 (by decide +kernel) _ fun j => ?_
  rfl

/-- From any memory, with the semaphores at zero, every execution of the kernel on the eight devices ends, with the
    semaphores at zero, the arguments as they were, and each device's result array holding `Inputs.res`. -/
theorem run_main : θ_run defs (onTc (τ := τ) (main (F := F))) ⟨m, fun _ => 0, ρ⟩
    (fun r => (∀ c : Dev nD, r.2.mem ((c : Thread nD τ).loc main_v1) = (inputs m).res c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun r h => ⟨fun c => ⟨(h.1 c (4 : Fin 5)).trans (final_res m c),
    (h.1 c (0 : Fin 5)).trans ((dats m 0 c).arrAt_in (0 : Fin 5) rfl _), (h.1 c (1 : Fin 5)).trans ((dats m 0 c).arrAt_in (1 : Fin 5) rfl _),
    (h.1 c (2 : Fin 5)).trans ((dats m 0 c).arrAt_in (2 : Fin 5) rfl _), (h.1 c (3 : Fin 5)).trans ((dats m 0 c).arrAt_in (3 : Fin 5) rfl _)⟩, h.2⟩)
    (run_arrays m ρ)

/-- The same, of the arguments and the semaphores alone. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => (h.1 c).2, h.2⟩) (run_main m ρ)

end Cert.KernelIdeal.Moe

end
-- ==== Proof.Mixture.lean ====
/-
The arithmetic of the mixture for one token and one result column, over the extended reals.

A token has 32 scores, one per expert, and names two experts by number. The kernel gives every expert a weight, zero for
those not named, and sums the weighted products over all 32; the reference takes the two named experts' products alone.
The two agree when the scores are real and at least one of the two numbers names an expert: then the two probabilities
add up to a positive real and the weights of the experts not named are zero.
-/
module

public import Idealize.ShloMosaic.PureOps.Ideal.Laws

@[expose] public section

noncomputable section

namespace Cert.Moe

open Idealize.ShloMosaic
open scoped BigOperators

/-- One if the number `b` names expert `t`, else zero. -/
def hit (b : BitVec 32) (t : Fin 32) : EReal := if BitVec.ofNat 32 t.val = b then 1 else 0

/-- The entry that `b` names, zero if it names none. -/
def chosen (b : BitVec 32) (f : Fin 32 → EReal) : EReal := ∑ t, f t * hit b t

/-- The greatest score. -/
def top (s : Fin 32 → EReal) : EReal := Finset.univ.fold max ⊥ s

/-- The probabilities: each score's exponential below the greatest, over their sum. -/
def prob (s : Fin 32 → EReal) (t : Fin 32) : EReal := Ideal.div (Ideal.exp (s t - top s)) (∑ u, Ideal.exp (s u - top s))

/-- The kernel's weight of expert `t`. -/
def weight (s : Fin 32 → EReal) (b0 b1 : BitVec 32) (t : Fin 32) : EReal :=
  Ideal.div (hit b0 t * chosen b0 (prob s) + hit b1 t * chosen b1 (prob s)) (chosen b0 (prob s) + chosen b1 (prob s))

/-- The number names an expert. -/
def Names (b : BitVec 32) : Prop := ∃ t : Fin 32, BitVec.ofNat 32 t.val = b

/-- A word read signed between the bounds names an expert. -/
theorem names_of_toInt {b : BitVec 32} (h0 : 0 ≤ b.toInt) (h1 : b.toInt < 32) : Names b := by
  have hn : b.toNat < 32 := by rw [BitVec.toInt_eq_toNat_cond] at h0 h1; have := b.isLt; split at h0 <;> omega
  refine ⟨⟨b.toNat, hn⟩, ?_⟩
  show BitVec.ofNat 32 b.toNat = b
  rw [BitVec.ofNat_toNat, BitVec.setWidth_eq]

theorem hit_self (t : Fin 32) : hit (BitVec.ofNat 32 t.val) t = 1 := if_pos rfl

theorem hit_ne {t u : Fin 32} (h : u ≠ t) : hit (BitVec.ofNat 32 t.val) u = 0 := by
  refine if_neg fun e => h (Fin.ext ?_)
  have := congrArg BitVec.toNat e
  simp only [BitVec.toNat_ofNat] at this
  omega

theorem hit_none {b : BitVec 32} (h : ¬ Names b) (t : Fin 32) : hit b t = 0 := if_neg fun e => h ⟨t, e⟩

theorem chosen_named (t : Fin 32) (f : Fin 32 → EReal) : chosen (BitVec.ofNat 32 t.val) f = f t := by
  unfold chosen
  rw [Finset.sum_eq_single t (fun u _ hu => by rw [hit_ne hu, mul_zero]) (fun h => absurd (Finset.mem_univ t) h), hit_self, mul_one]

theorem chosen_none {b : BitVec 32} (h : ¬ Names b) (f : Fin 32 → EReal) : chosen b f = 0 :=
  Finset.sum_eq_zero fun t _ => by rw [hit_none h, mul_zero]

/-- A sum weighted by what `b` names is the named entry, weighted. -/
theorem sum_hit (b : BitVec 32) (y : Fin 32 → EReal) (a : EReal) : ∑ t, y t * (hit b t * a) = a * chosen b y := by
  by_cases h : Names b
  · obtain ⟨t, rfl⟩ := h
    rw [chosen_named, Finset.sum_eq_single t (fun u _ hu => by rw [hit_ne hu, zero_mul, mul_zero])
      (fun h => absurd (Finset.mem_univ t) h), hit_self, one_mul, mul_comm]
  · rw [chosen_none h, mul_zero]
    exact Finset.sum_eq_zero fun t _ => by rw [hit_none h, zero_mul, mul_zero]

/-- A sum of reals is the real sum. -/
theorem sum_real {ι : Type*} (S : Finset ι) (f : ι → ℝ) : ∑ u ∈ S, (f u : EReal) = ((∑ u ∈ S, f u : ℝ) : EReal) := by
  induction S using Finset.cons_induction with
  | empty => rfl
  | cons a S ha ih => rw [Finset.sum_cons, Finset.sum_cons, ih, EReal.coe_add]

/-- Real scores have a real greatest. -/
theorem top_real (s : Fin 32 → ℝ) : ∃ m : ℝ, top (fun t => (s t : EReal)) = m := by
  have h : ∀ S : Finset (Fin 32), S.Nonempty → ∃ m : ℝ, S.fold max (⊥ : EReal) (fun t => (s t : EReal)) = m := by
    intro S hS
    induction hS using Finset.Nonempty.cons_induction with
    | singleton a => exact ⟨s a, by simp⟩
    | cons a S ha _ ih => obtain ⟨m, hm⟩ := ih; exact ⟨max (s a) m, by rw [Finset.fold_cons, hm]; norm_cast⟩
  exact h _ ⟨0, Finset.mem_univ _⟩

/-- Real scores have positive real probabilities. -/
theorem prob_real (s : Fin 32 → ℝ) : ∃ p : Fin 32 → ℝ, (∀ t, 0 < p t) ∧ prob (fun t => (s t : EReal)) = fun t => (p t : EReal) := by
  obtain ⟨m, hm⟩ := top_real s
  have he : ∀ t, Ideal.exp ((s t : EReal) - top fun t => (s t : EReal)) = (Real.exp (s t - m) : ℝ) := fun t => by
    rw [hm, ← EReal.coe_sub, Ideal.exp_coe]
  have hsum : (∑ u, Ideal.exp ((s u : EReal) - top fun t => (s t : EReal))) = ((∑ u, Real.exp (s u - m) : ℝ) : EReal) := by
    rw [Finset.sum_congr rfl fun u _ => he u]; exact sum_real _ _
  have hpos : 0 < ∑ u, Real.exp (s u - m) := Finset.sum_pos (fun u _ => Real.exp_pos _) ⟨0, Finset.mem_univ _⟩
  refine ⟨fun t => Real.exp (s t - m) * (1 / ∑ u, Real.exp (s u - m)), fun t => mul_pos (Real.exp_pos _) (one_div_pos.mpr hpos), ?_⟩
  funext t
  unfold prob
  rw [hsum, Ideal.div_coe hpos.ne', he, ← EReal.coe_mul]

/-- A named probability is a real that is not negative, and is positive if the number names an expert. -/
theorem chosen_prob (s : Fin 32 → ℝ) (b : BitVec 32) :
    ∃ g : ℝ, 0 ≤ g ∧ (Names b → 0 < g) ∧ chosen b (prob fun t => (s t : EReal)) = g := by
  obtain ⟨p, hp, e⟩ := prob_real s
  by_cases h : Names b
  · obtain ⟨t, rfl⟩ := h
    exact ⟨p t, (hp t).le, fun _ => hp t, by rw [chosen_named, e]⟩
  · exact ⟨0, le_rfl, fun h' => absurd h' h, by rw [chosen_none h]; rfl⟩

/-- **The kernel's sum over all experts is the reference's over the two named.** -/
theorem mixture (s : Fin 32 → ℝ) (b0 b1 : BitVec 32) (h : Names b0 ∨ Names b1) (y : Fin 32 → EReal) :
    ∑ t, y t * weight (fun t => (s t : EReal)) b0 b1 t
      = Ideal.div (chosen b0 (prob fun t => (s t : EReal))) (chosen b0 (prob fun t => (s t : EReal)) + chosen b1 (prob fun t => (s t : EReal))) * chosen b0 y
        + Ideal.div (chosen b1 (prob fun t => (s t : EReal))) (chosen b0 (prob fun t => (s t : EReal)) + chosen b1 (prob fun t => (s t : EReal))) * chosen b1 y := by
  obtain ⟨g0, h0, p0, e0⟩ := chosen_prob s b0
  obtain ⟨g1, h1, p1, e1⟩ := chosen_prob s b1
  have hg : 0 < g0 + g1 := by
    rcases h with h | h
    · have := p0 h; linarith
    · have := p1 h; linarith
  unfold weight
  rw [e0, e1, ← EReal.coe_add]
  simp only [Ideal.div_coe hg.ne']
  set r : ℝ := 1 / (g0 + g1) with hr
  have hr0 : 0 ≤ r := (one_div_pos.mpr hg).le
  rw [← sum_hit b0 y, ← sum_hit b1 y, ← Finset.sum_add_distrib]
  refine Finset.sum_congr rfl fun t _ => ?_
  have hn : ∀ b : BitVec 32, ∃ q : ℝ, 0 ≤ q ∧ hit b t = q := fun b => by
    by_cases hb : BitVec.ofNat 32 t.val = b
    · exact ⟨1, zero_le_one, if_pos hb⟩
    · exact ⟨0, le_rfl, if_neg hb⟩
  obtain ⟨q0, hq0, f0⟩ := hn b0
  obtain ⟨q1, hq1, f1⟩ := hn b1
  rw [f0, f1]
  have d : ((q0 : EReal) * g0 + q1 * g1) * r = q0 * (g0 * r) + q1 * (g1 * r) := by
    rw [← EReal.coe_mul, ← EReal.coe_mul, ← EReal.coe_add, ← EReal.coe_mul, ← EReal.coe_mul, ← EReal.coe_mul, ← EReal.coe_mul,
      ← EReal.coe_mul, ← EReal.coe_add]
    congr 1; ring
  rw [d]
  refine EReal.left_distrib_of_nonneg ?_ ?_
  · rw [← EReal.coe_mul, ← EReal.coe_mul]; exact_mod_cast mul_nonneg hq0 (mul_nonneg h0 hr0)
  · rw [← EReal.coe_mul, ← EReal.coe_mul]; exact_mod_cast mul_nonneg hq1 (mul_nonneg h1 hr0)

end Cert.Moe

end
-- ==== Proof.Weights.lean ====
/-
The gating weights a device computes for its own tokens, read at a token and an expert.
-/
module

public import proofs.«01_k».proof.Proof.Protocol
public import proofs.«01_k».proof.Proof.Mixture
public import Idealize.ShloMosaic.Lib.Pointwise

@[expose] public section

noncomputable section

namespace Cert.KernelIdeal.Moe

open Idealize.ShloMosaic Cert.KernelIdeal Cert.KernelIdeal.Gen Cert.Moe
open scoped BigOperators

/-- The word the largest score starts from is minus infinity. -/
theorem bits_bot : Ideal.ofBits .f32 4286578688#32 = ⊥ := by simp [Ideal.ofBits, Ideal.ieee]

/-- The device's probabilities. -/
theorem pay2_apply (X : Vec Ideal S512x256 .bf16) (R : Vec Ideal S256x32 .bf16) (i : Fin 512) (t : Fin 32) :
    k0_pay2 X R (ix2 i t) = prob (fun u => ∑ k : Fin 256, X (ix2 i k) * R (ix2 k u)) t := by
  pointwise [k0_pay2, k0_pay1, prob, top]
  rw [bits_bot]

/-- A mask converted to a float is one where it holds and zero elsewhere. -/
theorem mask_hit (t : Fin 32) (b : BitVec 32) :
    (FloatOps.sitofp (F := Ideal) FTy.f32 (BitVec.setWidth 32 (IntOp.cmpi .eq (BitVec.ofNat 32 t.val) b))) = hit b t := by
  show (((BitVec.setWidth 32 (IntOp.cmpi .eq (BitVec.ofNat 32 t.val) b)).toInt : ℝ) : EReal) = _
  unfold hit
  by_cases h : BitVec.ofNat 32 t.val = b
  · simp [IntOp.cmpi, h]
  · simp [IntOp.cmpi, h, beq_eq_false_iff_ne.mpr h]

/-- The first choice's mask. -/
theorem pay3_apply (b : Vec Ideal S512x1 .i32) (i : Fin 512) (t : Fin 32) :
    (k0_pay3 b : FVec Ideal _ _) (ix2 i t) = hit (b (ix2 i 0)) t := by
  pointwise [k0_pay3]
  exact mask_hit _ _

/-- The second choice's mask. -/
theorem pay4_apply (b : Vec Ideal S512x1 .i32) (i : Fin 512) (t : Fin 32) :
    (k0_pay4 b : FVec Ideal _ _) (ix2 i t) = hit (b (ix2 i 0)) t := by
  pointwise [k0_pay4]
  exact mask_hit _ _

/-- The first choice's probability. -/
theorem pay5_apply (X : Vec Ideal S512x256 .bf16) (R : Vec Ideal S256x32 .bf16) (b : Vec Ideal S512x1 .i32) (i : Fin 512) (j : Fin 1) :
    k0_pay5 X R b (ix2 i j) = chosen (b (ix2 i 0)) (prob (fun u => ∑ k : Fin 256, X (ix2 i k) * R (ix2 k u))) := by
  pointwise [k0_pay5]
  simp only [pay2_apply, pay3_apply]
  rfl

/-- The second choice's probability. -/
theorem pay6_apply (X : Vec Ideal S512x256 .bf16) (R : Vec Ideal S256x32 .bf16) (b : Vec Ideal S512x1 .i32) (i : Fin 512) :
    k0_pay6 X R b (ix1 i) = chosen (b (ix2 i 0)) (prob (fun u => ∑ k : Fin 256, X (ix2 i k) * R (ix2 k u))) := by
  pointwise [k0_pay6]
  simp only [pay2_apply, pay4_apply]
  rfl

variable (I : Inputs Ideal)

/-- A token's scores. -/
def scores (d : Dev nD) (i : Fin 512) (u : Fin 32) : EReal := ∑ k : Fin 256, I.x d (ix2 i k) * I.r d (ix2 k u)

theorem choice0_apply (d : Dev nD) (i : Fin 512) (j : Fin 1) : I.choice0 d (ix2 i j) = I.idx d (ix2 i 0) := by
  refine congrArg (I.idx d) (funext fun a => Fin.ext ?_)
  fin_cases a
  · show 0 + 1 * i.val = i.val; omega
  · show 0 + 1 * j.val = 0; omega

theorem choice1_apply (d : Dev nD) (i : Fin 512) (j : Fin 1) : I.choice1 d (ix2 i j) = I.idx d (ix2 i 1) := by
  refine congrArg (I.idx d) (funext fun a => Fin.ext ?_)
  fin_cases a
  · show 0 + 1 * i.val = i.val; omega
  · show 1 + 1 * j.val = 1; omega

/-- **The weights a device gathers**, at a token and an expert. -/
theorem gate_apply (d : Dev nD) (i : Fin 512) (t : Fin 32) (a : Fin 1) :
    I.gate d (ix3 a i t) = weight (scores I d i) (I.idx d (ix2 i 0)) (I.idx d (ix2 i 1)) t := by
  unfold Inputs.gate
  pointwise [k0_pay8]
  simp only [pay3_apply, pay4_apply, pay5_apply, pay6_apply, choice0_apply, choice1_apply]
  rfl

theorem tok_apply (d : Dev nD) (i : Fin 512) (k : Fin 256) (a : Fin 1) : I.tok d (ix3 a i k) = I.x d (ix2 i k) := by
  unfold Inputs.tok
  pointwise [k0_pay7, k0_pay1]

theorem slab_apply (d : Dev nD) (e : Fin 4) (k : Fin 256) (j : Fin 512) (a : Fin 1) : I.slab d e (ix3 a k j) = I.e d (ix3 e k j) := by
  unfold Inputs.slab
  pointwise [k0_pay9]
  refine congrArg (I.e d) (funext fun b => Fin.ext ?_)
  fin_cases b
  · show e.val + 1 * a.val = e.val; omega
  · show 0 + 1 * k.val = k.val; omega
  · show 0 + 1 * j.val = j.val; omega

end Cert.KernelIdeal.Moe

end
-- ==== Proof.Sums.lean ====
/-
A device's block of the result, read at a token and a column: the sum over all experts of that expert's product
with the token, times the expert's weight. Each device adds the part of its own four experts as the sum passes it, once
around the ring.
-/
module

public import proofs.«01_k».proof.Proof.Weights
public import proofs.«01_k».proof.Proof.Close

@[expose] public section

noncomputable section

namespace Cert.KernelIdeal.Moe

open Idealize.ShloMosaic Cert.KernelIdeal Cert.KernelIdeal.Gen Cert.Moe

/-- A device's experts, by number. -/
def expert (d : Dev nD) (e : Fin 4) : Fin 32 := ⟨e.val + 4 * d.val, by have : d.val < 8 := d.isLt; omega⟩

theorem expert_word : ∀ (d : Dev nD) (e : Fin 4),
    Scalar.addi (Scalar.muli 4#32 (devWord d)) (BitVec.ofNat 32 e.val) = BitVec.ofNat 32 (expert d e).val := by decide

/-- The masked sum picks the expert's column. -/
theorem gateCol_apply (d : Dev nD) (e : Fin 4) (w : Vec Ideal S1x512x32 .bf16) (i : Fin 512) (j : Fin 1) :
    gate (devWord d) (BitVec.ofNat 32 e.val) (gates w) (ix2 i j) = w (ix3 0 i (expert d e)) := by
  pointwise [gate, gates, lanes]
  simp only [expert_word, mask_hit]
  exact chosen_named (expert d e) fun t => w (ix3 0 i t)

theorem term_apply (x : Vec Ideal S1x512x256 .bf16) (s : FVec Ideal S256x256 .bf16) (g : FVec Ideal S512x1 .f32)
    (i : Fin 512) (j : Fin 256) :
    term (tokens x) s g (ix2 i j) = (∑ k : Fin 256, x (ix3 0 i k) * s (ix2 k j)) * g (ix2 i 0) := by
  pointwise [term, tokens]

theorem slabR_apply (w : Vec Ideal S1x256x512 .bf16) (k j : Fin 256) : slabR w (ix2 k j) = w (ix3 0 k ⟨j.val, by omega⟩) := by
  pointwise [slabR]

theorem slabL_apply (w : Vec Ideal S1x256x512 .bf16) (k j : Fin 256) : slabL w (ix2 k j) = w (ix3 0 k ⟨256 + j.val, by omega⟩) := by
  pointwise [slabL]

/-- One device's part, read at a token and a column. -/
theorem partial_apply (d : Dev nD) (x : Vec Ideal S1x512x256 .bf16) (w : Vec Ideal S1x512x32 .bf16)
    (s : Fin 4 → FVec Ideal S256x256 .bf16) (i : Fin 512) (j : Fin 256) :
    partialSum (devWord d) x w (s 0) (s 1) (s 2) (s 3) (ix2 i j)
      = ∑ e : Fin 4, (∑ k : Fin 256, x (ix3 0 i k) * s e (ix2 k j)) * w (ix3 0 i (expert d e)) := by
  rw [Fin.sum_univ_four, ← gateCol_apply d 0 w i 0, ← gateCol_apply d 1 w i 0, ← gateCol_apply d 2 w i 0,
    ← gateCol_apply d 3 w i 0, ← term_apply, ← term_apply, ← term_apply, ← term_apply]
  show (((Ideal.ofBits .f32 0#32 + _) + _) + _) + _ = _
  rw [Ideal.ofBits_zero_f32, zero_add]
  rfl

theorem firstHop_apply (p : FVec Ideal S512x256 .f32) (a : Fin 1) (i : Fin 512) (j : Fin 256) :
    firstHop p (ix3 a i j) = p (ix2 i j) := by
  pointwise [firstHop]

theorem withArrived_apply (p : FVec Ideal S512x256 .f32) (r : Vec Ideal S1x512x256 .bf16) (i : Fin 512) (j : Fin 256) :
    withArrived p r (ix2 i j) = p (ix2 i j) + r (ix3 0 i j) := by
  pointwise [withArrived]

variable (I : Inputs Ideal)

/-- An expert's product with a token, by the device that holds it and its place there. -/
def prod (b : Dev nD) (i j : Fin 512) (l : Dev nD) (e : Fin 4) : EReal := ∑ k : Fin 256, I.x b (ix2 i k) * I.e l (ix3 e k j)

/-- What device `l` adds to the sum of device `b`'s block. -/
def partAt (l b : Dev nD) (i j : Fin 512) : EReal :=
  ∑ e : Fin 4, prod I b i j l e * weight (scores I b i) (I.idx b (ix2 i 0)) (I.idx b (ix2 i 1)) (expert l e)

theorem partR_apply (c : Dev nD) (k : Fin 8) (i : Fin 512) (j : Fin 256) :
    I.partR c k (ix2 i j) = partAt I c (devAt (rel c k)) i ⟨j.val, by omega⟩ := by
  refine (partial_apply c _ _ (fun e => slabR (I.slab c e)) i j).trans (Finset.sum_congr rfl fun e _ => ?_)
  simp only [tok_apply, gate_apply, slabR_apply, slab_apply, prod]

theorem partL_apply (c : Dev nD) (k : Fin 8) (i : Fin 512) (j : Fin 256) :
    I.partL c k (ix2 i j) = partAt I c (devAt (rel c k)) i ⟨256 + j.val, by omega⟩ := by
  refine (partial_apply c _ _ (fun e => slabL (I.slab c e)) i j).trans (Finset.sum_congr rfl fun e _ => ?_)
  simp only [tok_apply, gate_apply, slabL_apply, slab_apply, prod]

theorem sentR_zero (c : Dev nD) (a : Fin 1) (i : Fin 512) (j : Fin 256) :
    I.sentR 0 c (ix3 a i j) = partAt I c (devAt (rel c 7)) i ⟨j.val, by omega⟩ :=
  (firstHop_apply _ a i j).trans (partR_apply I c 7 i j)

theorem sentR_succ (s : ℕ) (c : Dev nD) (a : Fin 1) (i : Fin 512) (j : Fin 256) :
    I.sentR (s + 1) c (ix3 a i j)
      = partAt I c (devAt (rel c (Fin.ofNat 8 (6 - s)))) i ⟨j.val, by omega⟩ + I.sentR s (prv c) (ix3 0 i j) := by
  refine (firstHop_apply _ a i j).trans ?_
  rw [withArrived_apply, partR_apply]

theorem sentL_zero (c : Dev nD) (a : Fin 1) (i : Fin 512) (j : Fin 256) :
    I.sentL 0 c (ix3 a i j) = partAt I c (devAt (rel c 1)) i ⟨256 + j.val, by omega⟩ :=
  (firstHop_apply _ a i j).trans (partL_apply I c 1 i j)

theorem sentL_succ (s : ℕ) (c : Dev nD) (a : Fin 1) (i : Fin 512) (j : Fin 256) :
    I.sentL (s + 1) c (ix3 a i j)
      = partAt I c (devAt (rel c (Fin.ofNat 8 (s + 2)))) i ⟨256 + j.val, by omega⟩ + I.sentL s (nxt c) (ix3 0 i j) := by
  refine (firstHop_apply _ a i j).trans ?_
  rw [withArrived_apply, partL_apply]

/-- The devices, counted back around the ring from a device. -/
def backEquiv (c : Dev nD) : Fin 8 ≃ Dev nD :=
  ⟨fun s => devAt (pos c - s), fun d => pos c - pos d, by revert c; decide, by revert c; decide⟩
/-- The devices, counted on around the ring from a device. -/
def aheadEquiv (c : Dev nD) : Fin 8 ≃ Dev nD :=
  ⟨fun s => devAt (pos c + s), fun d => pos d - pos c, by revert c; decide, by revert c; decide⟩

/-- The device `s` places back along the ring. -/
def back : ℕ → Dev nD → Dev nD
  | 0, c => c
  | s + 1, c => back s (prv c)
/-- The device `s` places on along the ring. -/
def ahead : ℕ → Dev nD → Dev nD
  | 0, c => c
  | s + 1, c => ahead s (nxt c)

theorem back_eq : ∀ (c : Dev nD) (s : Fin 8), back s.val c = backEquiv c s := by decide
theorem ahead_eq : ∀ (c : Dev nD) (s : Fin 8), ahead s.val c = aheadEquiv c s := by decide

/-- A device `s` places back adds, on the way to device `c`, its part of `c`'s block. -/
theorem block_back : ∀ (c : Dev nD) (s : Fin 8), devAt (rel (back s.val c) s) = c := by decide
theorem block_ahead : ∀ (c : Dev nD) (s : Fin 8), devAt (rel (ahead s.val c) (Fin.ofNat 8 (8 - s.val))) = c := by decide

/-- **The left half of a device's result.** -/
theorem resR_apply (c : Dev nD) (i : Fin 512) (j : Fin 256) :
    I.resR c (ix2 i j) = ∑ l, partAt I l c i ⟨j.val, by omega⟩ := by
  unfold Inputs.resR
  rw [withArrived_apply, partR_apply, sentR_succ I 5, sentR_succ I 4, sentR_succ I 3, sentR_succ I 2, sentR_succ I 1,
    sentR_succ I 0, sentR_zero, ← (backEquiv c).sum_comp, Fin.sum_univ_eight]
  simp only [← back_eq]
  rw [show devAt (rel c 0) = c from block_back c 0, show devAt (rel (prv c) (Fin.ofNat 8 (6 - 5))) = c from block_back c 1,
    show devAt (rel (prv (prv c)) (Fin.ofNat 8 (6 - 4))) = c from block_back c 2,
    show devAt (rel (prv (prv (prv c))) (Fin.ofNat 8 (6 - 3))) = c from block_back c 3,
    show devAt (rel (prv (prv (prv (prv c)))) (Fin.ofNat 8 (6 - 2))) = c from block_back c 4,
    show devAt (rel (prv (prv (prv (prv (prv c))))) (Fin.ofNat 8 (6 - 1))) = c from block_back c 5,
    show devAt (rel (prv (prv (prv (prv (prv (prv c)))))) (Fin.ofNat 8 (6 - 0))) = c from block_back c 6,
    show devAt (rel (prv (prv (prv (prv (prv (prv (prv c))))))) 7) = c from block_back c 7]
  simp only [add_assoc]
  rfl

/-- **The right half.** -/
theorem resL_apply (c : Dev nD) (i : Fin 512) (j : Fin 256) :
    I.resL c (ix2 i j) = ∑ l, partAt I l c i ⟨256 + j.val, by omega⟩ := by
  unfold Inputs.resL
  rw [withArrived_apply, partL_apply, sentL_succ I 5, sentL_succ I 4, sentL_succ I 3, sentL_succ I 2, sentL_succ I 1,
    sentL_succ I 0, sentL_zero, ← (aheadEquiv c).sum_comp, Fin.sum_univ_eight]
  simp only [← ahead_eq]
  rw [show devAt (rel c 0) = c from block_ahead c 0, show devAt (rel (nxt c) (Fin.ofNat 8 (5 + 2))) = c from block_ahead c 1,
    show devAt (rel (nxt (nxt c)) (Fin.ofNat 8 (4 + 2))) = c from block_ahead c 2,
    show devAt (rel (nxt (nxt (nxt c))) (Fin.ofNat 8 (3 + 2))) = c from block_ahead c 3,
    show devAt (rel (nxt (nxt (nxt (nxt c)))) (Fin.ofNat 8 (2 + 2))) = c from block_ahead c 4,
    show devAt (rel (nxt (nxt (nxt (nxt (nxt c))))) (Fin.ofNat 8 (1 + 2))) = c from block_ahead c 5,
    show devAt (rel (nxt (nxt (nxt (nxt (nxt (nxt c)))))) (Fin.ofNat 8 (0 + 2))) = c from block_ahead c 6,
    show devAt (rel (nxt (nxt (nxt (nxt (nxt (nxt (nxt c))))))) 1) = c from block_ahead c 7]
  simp only [add_assoc]
  rfl

/-- An expert's product with a token, by the expert's number among all. -/
def product (b : Dev nD) (i j : Fin 512) (t : Fin 32) : EReal :=
  prod I b i j ⟨t.val / 4, by show _ < 8; omega⟩ ⟨t.val % 4, by omega⟩

/-- Summing over the devices and each one's experts is summing over all experts. -/
theorem sum_partAt (c : Dev nD) (i j : Fin 512) :
    ∑ l, partAt I l c i j
      = ∑ t : Fin 32, product I c i j t * weight (scores I c i) (I.idx c (ix2 i 0)) (I.idx c (ix2 i 1)) t := by
  refine (Fintype.sum_prod_type' fun (l : Dev nD) (e : Fin 4) =>
    prod I c i j l e * weight (scores I c i) (I.idx c (ix2 i 0)) (I.idx c (ix2 i 1)) (expert l e)).symm.trans ?_
  refine Fintype.sum_equiv (finProdFinEquiv : Fin 8 × Fin 4 ≃ Fin 32) _ _ fun p => ?_
  obtain ⟨l, e⟩ := p
  have hl : l.val < 8 := l.isLt
  have h1 : (⟨(expert l e).val / 4, by show _ < 8; have := (expert l e).isLt; omega⟩ : Dev nD) = l := Fin.ext (by show (e.val + 4 * l.val) / 4 = l.val; omega)
  have h2 : (⟨(expert l e).val % 4, by omega⟩ : Fin 4) = e := Fin.ext (by show (e.val + 4 * l.val) % 4 = e.val; omega)
  show _ = prod I c i j ⟨(expert l e).val / 4, _⟩ ⟨(expert l e).val % 4, _⟩ * weight _ _ _ (expert l e)
  rw [h1, h2]

/-- **A device's block of the result**, at a token and a column. -/
theorem res_apply (c : Dev nD) (i j : Fin 512) :
    I.res c (ix2 i j)
      = ∑ t : Fin 32, product I c i j t * weight (scores I c i) (I.idx c (ix2 i 0)) (I.idx c (ix2 i 1)) t := by
  rw [← sum_partAt]
  by_cases h : j.val < 256
  · exact (dif_pos h).trans (resR_apply I c i ⟨j.val, h⟩)
  · refine (dif_neg h).trans ((resL_apply I c i ⟨j.val - 256, by omega⟩).trans ?_)
    have : (⟨256 + (j.val - 256), by omega⟩ : Fin 512) = j := Fin.ext (by show 256 + (j.val - 256) = j.val; omega)
    simp only [this]

end Cert.KernelIdeal.Moe

end
-- ==== Proof.Picks.lean ====
/-
The reference, in parts: its probabilities, the probability and the expert it takes at an index, and the result they
make. Each part read at an index.
-/
module

public import proofs.«01_k».proof.Proof.Gen.ReferenceIdeal.Run
public import proofs.«01_k».proof.Proof.Mixture
public import Idealize.ShloMosaic.Lib.Pointwise
public import Idealize.ShloMosaic.Lib.ReduceAll

@[expose] public section

noncomputable section

namespace Cert.ReferenceIdeal.Moe

open Idealize.ShloMosaic Cert.ReferenceIdeal Cert.ReferenceIdeal.Gen Cert.Moe

abbrev Tokens := Vec Ideal S4096x256 .bf16
abbrev Router := Vec Ideal S256x32 .bf16
abbrev Choices := Vec Ideal S4096x2 .i32
abbrev Experts := Vec Ideal S32x256x512 .bf16

/-- The scores. -/
def scored (X : Tokens) (R : Router) : FVec Ideal S4096x32 .f32 :=
  Host.dotGeneral dot_S4096x256_S256x32_S4096x32_1_0_0_1_n_n none (extf .f32 X bitsLt_bf16_f32) (extf .f32 R bitsLt_bf16_f32)

/-- The exponentials of the scores, each token's largest score taken off first. -/
def raised (X : Tokens) (R : Router) : FVec Ideal S4096x32 .f32 :=
  Host.exp (subf (scored X R) (broadcastInDim S4096x32 ![0, 1] bcast_S4096x1_S4096x32_0_1 (broadcastInDim S4096x1 ![0] bcast_S4096_S4096x1_0
    (Host.reduce FloatOps.maximumf (scored X R) (constant S_ .f32 0xFF800000#32) reducesTo_S4096x32_S4096_d1 h_S_))))

/-- The probabilities. -/
def probs (X : Tokens) (R : Router) : FVec Ideal S4096x32 .f32 :=
  Host.divf (raised X R) (broadcastInDim S4096x32 ![0, 1] bcast_S4096x1_S4096x32_0_1 (broadcastInDim S4096x1 ![0] bcast_S4096_S4096x1_0
    (Host.reduceAdd (raised X R) (constant S_ .f32 0x00000000#32) reducesTo_S4096x32_S4096_d1 h_S_)))

/-- A column of the choices. -/
def column0 (b : Choices) : IVec S4096 32 := shapeCast S4096 (extractStridedSlice S4096x1 ![0, 0] b slices_S4096x2_S4096x1_0_0) shapeCasts_S4096x1_S4096
def column1 (b : Choices) : IVec S4096 32 := shapeCast S4096 (extractStridedSlice S4096x1 ![0, 1] b slices_S4096x2_S4096x1_0_1) shapeCasts_S4096x1_S4096

/-- A column stood up. -/
def upright (v : IVec S4096 32) : IVec S4096x1 32 := broadcastInDim S4096x1 ![0] bcast_S4096_S4096x1_0 v

/-- Each token's number beside its index. -/
def paired (v : IVec S4096 32) : IVec S4096x2 32 :=
  concatenate S4096x2 1 [⟨S4096x1, upright (iotaInDim S4096 32 0)⟩, ⟨S4096x1, upright v⟩] concatenates_S4096x1_S4096x1_S4096x2_d1

/-- Whether both are in bounds. -/
def inside (v : IVec S4096 32) : IVec S4096 1 :=
  Host.reduce IntOp.andi
    (andi (cmpi .sge (paired v) (broadcastInDim S4096x2 ![] bcast_S_S4096x2 (constantI S_ 32 0#32)))
      (cmpi .sle (paired v) (broadcastInDim S4096x2 ![0, 1] bcast_S1x2_S4096x2_0_1 (broadcastInDim S1x2 ![1] bcast_S2_S1x2_1 (fun i => lit0 (S2.rowMajor i))))))
    (constantI S_ 1 1#1) reducesTo_S4096x2_S4096_d1 h_S_

/-- Each token's probability at its index, zero out of bounds. -/
def taken (p : FVec Ideal S4096x32 .f32) (v : IVec S4096 32) : FVec Ideal S4096 .f32 :=
  select (inside v) (Host.gather gather_S4096x32_S4096x2_S4096_n_01_n_n_01_1_11 p (paired v))
    (broadcastInDim S4096 ![] bcast_S_S4096 (constant S_ .f32 0x00000000#32))

/-- Whether the index alone is in bounds. -/
def within (v : IVec S4096 32) : IVec S4096 1 :=
  Host.reduce IntOp.andi
    (andi (cmpi .sge (upright v) (broadcastInDim S4096x1 ![] bcast_S_S4096x1 (constantI S_ 32 0#32)))
      (cmpi .sle (upright v) (broadcastInDim S4096x1 ![0, 1] bcast_S1x1_S4096x1_0_1 (broadcastInDim S1x1 ![1] bcast_S1_S1x1_1 (constantI S1 32 31#32)))))
    (constantI S_ 1 1#1) reducesTo_S4096x1_S4096_d1 h_S_

/-- Each token's expert at its index, zero out of bounds. -/
def matrices (W : Experts) (v : IVec S4096 32) : FVec Ideal S4096x256x512 .f32 :=
  select (broadcastInDim S4096x256x512 ![0] bcast_S4096_S4096x256x512_0 (within v))
    (Host.gather gather_S32x256x512_S4096x1_S4096x256x512_12_0_n_n_0_1_1256512 (extf .f32 W bitsLt_bf16_f32) (upright v))
    (broadcastInDim S4096x256x512 ![] bcast_S_S4096x256x512 (constant S_ .f32 0x00000000#32))

/-- Each token's product with its expert. -/
def products (X : Tokens) (W : Experts) (v : IVec S4096 32) : FVec Ideal S4096x512 .f32 :=
  Host.dotGeneral dot_S4096x256_S4096x256x512_S4096x512_1_1_n_2_0_0 none (extf .f32 X bitsLt_bf16_f32) (matrices W v)

/-- A product scaled by one probability of two. -/
def scaled (g s : FVec Ideal S4096 .f32) (y : FVec Ideal S4096x512 .f32) : FVec Ideal S4096x512 .f32 :=
  mulf (broadcastInDim S4096x512 ![0, 1] bcast_S4096x1_S4096x512_0_1 (broadcastInDim S4096x1 ![0] bcast_S4096_S4096x1_0 (Host.divf g s))) y

/-- The whole result. -/
def whole (X : Tokens) (R : Router) (b : Choices) (W : Experts) : FVec Ideal S4096x512 .f32 :=
  addf
    (scaled (taken (probs X R) (column0 b)) (addf (taken (probs X R) (column0 b)) (taken (probs X R) (column1 b))) (products X W (column0 b)))
    (scaled (taken (probs X R) (column1 b)) (addf (taken (probs X R) (column0 b)) (taken (probs X R) (column1 b))) (products X W (column1 b)))

/-- The reference's result is these parts put together. -/
theorem result_eq (m : (ℓ : Loc nD τ sig) → Buf (Elt Ideal) ℓ) (c : Dev nD) :
    Value.res_main_v80 m c
      = whole (m ((c.tc : Thread nD τ).loc main_arg0)) (m ((c.tc : Thread nD τ).loc main_arg1))
          (m ((c.tc : Thread nD τ).loc main_arg2)) (m ((c.tc : Thread nD τ).loc main_arg3)) := by
  unfold Value.res_main_v80
  rfl

/-- The probabilities, read at a token and an expert. -/
theorem probs_apply (X : Tokens) (R : Router) (i : Fin 4096) (t : Fin 32) :
    probs X R (ix2 i t) = prob (fun u => ∑ k : Fin 256, X (ix2 i k) * R (ix2 k u)) t := by
  pointwise [probs, raised, scored, prob, top]
  rw [show Ideal.ofBits .f32 4286578688#32 = ⊥ by simp [Ideal.ofBits, Ideal.ieee]]

theorem column0_apply (b : Choices) (i : Fin 4096) : column0 b (ix1 i) = b (ix2 i 0) := by
  pointwise [column0]

theorem column1_apply (b : Choices) (i : Fin 4096) : column1 b (ix1 i) = b (ix2 i 1) := by
  pointwise [column1]

theorem upright_apply (v : IVec S4096 32) (i : Fin 4096) (a : Fin 1) : upright v (ix2 i a) = v (ix1 i) := by
  pointwise [upright]

theorem paired_row (v : IVec S4096 32) (i : Fin 4096) : paired v (ix2 i 0) = BitVec.ofNat 32 i.val := by
  pointwise [paired, upright]

theorem paired_index (v : IVec S4096 32) (i : Fin 4096) : paired v (ix2 i 1) = v (ix1 i) := by
  pointwise [paired, upright]

/-! ## In bounds -/

/-- The two comparisons of an index with its bounds. -/
def bounded (b : BitVec 32) : BitVec 1 := IntOp.andi (IntOp.cmpi .sge b 0#32) (IntOp.cmpi .sle b 31#32)

theorem bounded_named : ∀ t : Fin 32, bounded (BitVec.ofNat 32 t.val) = 1#1 := by decide

theorem bounded_none {b : BitVec 32} (h : ¬ Names b) : bounded b = 0#1 := by
  by_contra hb
  refine h ?_
  have h1 : bounded b = 1#1 := by
    rcases (show ∀ w : BitVec 1, w = 0#1 ∨ w = 1#1 by decide) (bounded b) with e | e
    · exact absurd e hb
    · exact e
  obtain ⟨lo, hi⟩ := IntOp.andi_eq_one.1 h1
  exact names_of_toInt (IntOp.cmpi_sge.1 lo) (Int.lt_add_one_of_le (IntOp.cmpi_sle.1 hi))

theorem within_apply (v : IVec S4096 32) (i : Fin 4096) : within v (ix1 i) = bounded (v (ix1 i)) := by
  pointwise [within, upright]
  rw [Finset.univ_unique, Finset.fold_singleton]
  exact (show ∀ w : BitVec 1, IntOp.andi w 1#1 = w by decide) _

theorem word_int {n : ℕ} (i : Fin n) (h : n ≤ 4096) : (BitVec.ofNat 32 i.val).toInt = i.val := by
  have := i.isLt
  have e : (BitVec.ofNat 32 i.val).toNat = i.val := by rw [BitVec.toNat_ofNat]; omega
  rw [BitVec.toInt_eq_toNat_cond, e, if_pos (by omega)]

theorem word_nat {n : ℕ} (i : Fin n) (h : n ≤ 4096) : (BitVec.ofNat 32 i.val).toInt.toNat = i.val := by
  rw [word_int i h, Int.toNat_natCast]

/-- A token's number is within its bounds. -/
theorem row_bounded (i : Fin 4096) :
    IntOp.andi (IntOp.cmpi .sge (BitVec.ofNat 32 i.val) 0#32) (IntOp.cmpi .sle (BitVec.ofNat 32 i.val) 4095#32) = 1#1 := by
  refine IntOp.andi_eq_one.2 ⟨IntOp.cmpi_sge.2 ?_, IntOp.cmpi_sle.2 ?_⟩
  · rw [word_int i (le_refl _), show (0#32 : BitVec 32).toInt = 0 by decide]; omega
  · rw [word_int i (le_refl _), show (4095#32 : BitVec 32).toInt = 4095 by decide]; omega

theorem inside_apply (v : IVec S4096 32) (i : Fin 4096) : inside v (ix1 i) = bounded (v (ix1 i)) := by
  pointwise [inside, paired, upright]
  rw [show (Finset.univ : Finset (Fin 2)) = {0, 1} from rfl, Finset.fold_insert (by decide), Finset.fold_singleton]
  have h := row_bounded i
  refine (congrArg₂ IntOp.andi h ((show ∀ w : BitVec 1, IntOp.andi w 1#1 = w by decide) (bounded (v (ix1 i))))).trans ?_
  exact (show ∀ w : BitVec 1, IntOp.andi 1#1 w = w by decide) _

/-! ## The gathers -/

/-- One element at a row and a column, each read signed and clamped. -/
theorem gather_pair (p : FVec Ideal S4096x32 .f32) (idx : IVec S4096x2 32) (i : Fin 4096) :
    Host.gather gather_S4096x32_S4096x2_S4096_n_01_n_n_01_1_11 p idx (ix1 i)
      = p (ix2 ⟨min (idx (ix2 i 0)).toInt.toNat 4095, by omega⟩ ⟨min (idx (ix2 i 1)).toInt.toNat 31, by omega⟩) := by
  unfold Host.gather
  congr 1
  funext a
  refine Fin.ext ?_
  show GatherDims.start _ _ idx a + GatherDims.batchCoord _ _ a + GatherDims.offCoord _ _ a = _
  rw [GatherDims.batchCoord_eq_zero _ _ _ (fun h => by cases h),
    GatherDims.offCoord_eq_zero _ _ _ (fun h => ((GatherDims.mem_sKept _ _).mp h).1 (by
      match a with
      | ⟨0, _⟩ => exact List.mem_cons_self ..
      | ⟨1, _⟩ => exact List.mem_cons_of_mem _ (List.mem_cons_self ..)))]
  unfold GatherDims.start
  match a with
  | ⟨0, _⟩ =>
    rw [dif_pos (show (⟨0, _⟩ : Fin S4096x32.rank) ∈ gather_S4096x32_S4096x2_S4096_n_01_n_n_01_1_11.startIndexMap from List.mem_cons_self ..)]
    refine congrArg (fun w : BitVec 32 => min w.toInt.toNat 4095) (congrArg idx ?_)
    funext b
    match b with
    | ⟨0, _⟩ => rfl
    | ⟨1, _⟩ => rfl
  | ⟨1, _⟩ =>
    rw [dif_pos (show (⟨1, _⟩ : Fin S4096x32.rank) ∈ gather_S4096x32_S4096x2_S4096_n_01_n_n_01_1_11.startIndexMap from List.mem_cons_of_mem _ (List.mem_cons_self ..))]
    refine congrArg (fun w : BitVec 32 => min w.toInt.toNat 31) (congrArg idx ?_)
    funext b
    match b with
    | ⟨0, _⟩ => rfl
    | ⟨1, _⟩ => rfl

/-- One matrix at an index, read signed and clamped. -/
theorem gather_slab (W : FVec Ideal S32x256x512 .f32) (idx : IVec S4096x1 32) (i : Fin 4096) (k : Fin 256) (j : Fin 512) :
    Host.gather gather_S32x256x512_S4096x1_S4096x256x512_12_0_n_n_0_1_1256512 W idx (ix3 i k j)
      = W (ix3 ⟨min (idx (ix2 i 0)).toInt.toNat 31, by omega⟩ k j) := by
  unfold Host.gather
  congr 1
  funext a
  refine Fin.ext ?_
  show GatherDims.start _ _ idx a + GatherDims.batchCoord _ _ a + GatherDims.offCoord _ _ a = _
  rw [GatherDims.batchCoord_eq_zero _ _ _ (fun h => by cases h)]
  match a with
  | ⟨0, _⟩ =>
    rw [GatherDims.offCoord_eq_zero _ _ _ (fun h => ((GatherDims.mem_sKept _ _).mp h).1 (List.mem_cons_self ..))]
    unfold GatherDims.start
    rw [dif_pos (show (⟨0, _⟩ : Fin S32x256x512.rank) ∈ gather_S32x256x512_S4096x1_S4096x256x512_12_0_n_n_0_1_1256512.startIndexMap from List.mem_cons_self ..)]
    refine congrArg (fun w : BitVec 32 => min w.toInt.toNat 31) (congrArg idx ?_)
    funext b
    match b with
    | ⟨0, _⟩ => rfl
    | ⟨1, _⟩ => rfl
  | ⟨1, _⟩ =>
    unfold GatherDims.start
    rw [dif_neg (show ¬ (⟨1, _⟩ : Fin S32x256x512.rank) ∈ gather_S32x256x512_S4096x1_S4096x256x512_12_0_n_n_0_1_1256512.startIndexMap from
      show ¬ (1 : Fin 3) ∈ [(0 : Fin 3)] by decide)]
    show 0 + 0 + k.val = k.val
    omega
  | ⟨2, _⟩ =>
    unfold GatherDims.start
    rw [dif_neg (show ¬ (⟨2, _⟩ : Fin S32x256x512.rank) ∈ gather_S32x256x512_S4096x1_S4096x256x512_12_0_n_n_0_1_1256512.startIndexMap from
      show ¬ (2 : Fin 3) ∈ [(0 : Fin 3)] by decide)]
    show 0 + 0 + j.val = j.val
    omega

/-! ## What is taken -/

/-- Taken at an index: the probability it names, or zero. -/
theorem taken_apply (p : FVec Ideal S4096x32 .f32) (v : IVec S4096 32) (i : Fin 4096) :
    taken p v (ix1 i) = chosen (v (ix1 i)) fun t => p (ix2 i t) := by
  pointwise [taken]
  simp only [inside_apply, gather_pair, paired_row, paired_index]
  by_cases h : Names (v (ix1 i))
  · obtain ⟨t, e⟩ := h
    simp only [← e, bounded_named, chosen_named, word_nat _ (le_refl _), word_nat t (by decide)]
    refine congrArg p (congrArg₂ ix2 (Fin.ext ?_) (Fin.ext ?_))
    · show min i.val 4095 = i.val; omega
    · show min t.val 31 = t.val; omega
  · rw [bounded_none h, chosen_none h]
    rfl

/-- Taken at an index: the matrix it names, or zero. -/
theorem matrices_apply (W : Experts) (v : IVec S4096 32) (i : Fin 4096) (k : Fin 256) (j : Fin 512) :
    matrices W v (ix3 i k j) = chosen (v (ix1 i)) fun t => W (ix3 t k j) := by
  pointwise [matrices]
  simp only [within_apply, gather_slab, upright_apply]
  by_cases h : Names (v (ix1 i))
  · obtain ⟨t, e⟩ := h
    simp only [← e, bounded_named, chosen_named, word_nat t (by decide)]
    refine congrArg W (congrArg (fun u => ix3 u k j) (Fin.ext ?_))
    show min t.val 31 = t.val; omega
  · rw [bounded_none h, chosen_none h]
    rfl

/-- A token's product with the expert its index names, or zero. -/
theorem products_apply (X : Tokens) (W : Experts) (v : IVec S4096 32) (i : Fin 4096) (j : Fin 512) :
    products X W v (ix2 i j) = chosen (v (ix1 i)) fun t => ∑ k : Fin 256, X (ix2 i k) * W (ix3 t k j) := by
  pointwise [products]
  simp only [matrices_apply]
  by_cases h : Names (v (ix1 i))
  · obtain ⟨t, e⟩ := h
    simp only [← e, chosen_named]
  · simp only [chosen_none h, mul_zero, Finset.sum_const_zero]

theorem scaled_apply (g s : FVec Ideal S4096 .f32) (y : FVec Ideal S4096x512 .f32) (i : Fin 4096) (j : Fin 512) :
    scaled g s y (ix2 i j) = Ideal.div (g (ix1 i)) (s (ix1 i)) * y (ix2 i j) := by
  pointwise [scaled]

/-- **The reference's result**, at a token and a column. -/
theorem whole_apply (X : Tokens) (R : Router) (b : Choices) (W : Experts) (i : Fin 4096) (j : Fin 512) :
    whole X R b W (ix2 i j)
      = let p := prob fun u => ∑ k : Fin 256, X (ix2 i k) * R (ix2 k u)
        let y := fun t => ∑ k : Fin 256, X (ix2 i k) * W (ix3 t k j)
        let g0 := chosen (b (ix2 i 0)) p
        let g1 := chosen (b (ix2 i 1)) p
        Ideal.div g0 (g0 + g1) * chosen (b (ix2 i 0)) y + Ideal.div g1 (g0 + g1) * chosen (b (ix2 i 1)) y := by
  show scaled _ _ _ (ix2 i j) + scaled _ _ _ (ix2 i j) = _
  rw [scaled_apply, scaled_apply]
  show Ideal.div (taken _ _ (ix1 i)) (taken _ _ (ix1 i) + taken _ _ (ix1 i)) * _ + Ideal.div (taken _ _ (ix1 i)) (taken _ _ (ix1 i) + taken _ _ (ix1 i)) * _ = _
  simp only [taken_apply, products_apply, column0_apply, column1_apply, probs_apply]

end Cert.ReferenceIdeal.Moe

end
-- ==== Proof.Value.lean ====
/-
The value claim: on finite scores, where each token has an expert among its two indices, the sum over all experts of an
expert's product times its weight is the reference's two scaled products.
-/
module

public import proofs.«01_k».proof.Defs
public import proofs.«01_k».proof.Proof.Sums
public import proofs.«01_k».proof.Proof.Picks
public import proofs.«01_k».proof.Proof.Run

@[expose] public section

noncomputable section

namespace Cert.Proof

open Idealize.ShloMosaic Idealize.SL.Sem Cert.Moe

/-! ## What the precondition says -/

section Pre

open Cert.Pre_finite_and_routed_KernelIdeal

instance preKernel : Cert.Pre_finite_and_routed_KernelIdeal.Facts :=
  ⟨by decide, by decide, by decide, by decide, by decide, by decide⟩

instance preReference : Cert.Pre_finite_and_routed_ReferenceIdeal.Facts :=
  ⟨by decide, by decide, by decide, by decide, by decide, by decide⟩

/-- A number whose absolute value is below infinity is real. -/
theorem real_of_finite (x : EReal) (h : Ideal.cmp .olt (max x (-x)) (Ideal.ofBits .bf16 0x7F80#16) = 1#1) : ∃ r : ℝ, x = r := by
  rw [show Ideal.ofBits .bf16 0x7F80#16 = ⊤ by simp [Ideal.ofBits, Ideal.ieee]] at h
  induction x using EReal.rec with
  | bot => simp [Ideal.cmp] at h
  | top => simp [Ideal.cmp] at h
  | coe r => exact ⟨r, rfl⟩

variable (X : FVec Ideal S512x256 .bf16) (R : FVec Ideal S256x32 .bf16) (b : IVec S512x2 32) (W : FVec Ideal S4x256x512 .bf16)

theorem real_tokens (h : (fn X R b W).1 = fun _ => 1#1) (i : Fin 512) (k : Fin 256) : ∃ r : ℝ, X (ix2 i k) = r :=
  real_of_finite _ (congrFun h (ix2 i k))

theorem real_router (h : (fn X R b W).2.1 = fun _ => 1#1) (k : Fin 256) (u : Fin 32) : ∃ r : ℝ, R (ix2 k u) = r :=
  real_of_finite _ (congrFun h (ix2 k u))

theorem fn_routed (i : Fin 512) :
    (fn X R b W).2.2 (ix1 i)
      = IntOp.ori (IntOp.andi (IntOp.cmpi .sge (b (ix2 i 0)) 0#32) (IntOp.cmpi .slt (b (ix2 i 0)) 32#32))
          (IntOp.andi (IntOp.cmpi .sge (b (ix2 i 1)) 0#32) (IntOp.cmpi .slt (b (ix2 i 1)) 32#32)) := by
  pointwise [fn, fn_part1]

theorem routed (h : (fn X R b W).2.2 = fun _ => 1#1) (i : Fin 512) : Names (b (ix2 i 0)) ∨ Names (b (ix2 i 1)) := by
  have e := (fn_routed X R b W i).symm.trans (congrFun h (ix1 i))
  refine (IntOp.ori_eq_one.1 e).imp (fun e => ?_) fun e => ?_ <;>
  exact names_of_toInt (IntOp.cmpi_sge.1 (IntOp.andi_eq_one.1 e).1) (IntOp.cmpi_slt.1 (IntOp.andi_eq_one.1 e).2)

end Pre

/-! ## Where a block's elements are in the whole array -/

/-- Row `i` of block `c`. -/
def row (c : Fin 8) (i : Fin 512) : Fin 4096 := ⟨c.val * 512 + i.val, by omega⟩

theorem block_rows {α : Type} {n : ℕ} (c : Fin 8) (v : (⟨2, ![4096, n]⟩ : Shape).Idx → α)
    (h : Layout.Tiles ⟨2, ![512, n]⟩ ⟨2, ![4096, n]⟩ 0 8) (i : Fin 512) (j : Fin n) :
    Layout.block ⟨2, ![512, n]⟩ ⟨2, ![4096, n]⟩ 0 8 c v h (ix2 i j) = v (ix2 (row c i) j) := by
  refine congrArg v (funext fun a => Fin.ext ?_)
  match a with
  | ⟨0, _⟩ => rfl
  | ⟨1, _⟩ => rfl

theorem block_slabs {α : Type} (t : Fin 32) (v : (⟨3, ![32, 256, 512]⟩ : Shape).Idx → α)
    (h : Layout.Tiles ⟨3, ![4, 256, 512]⟩ ⟨3, ![32, 256, 512]⟩ 0 8) (k : Fin 256) (j : Fin 512) :
    Layout.block ⟨3, ![4, 256, 512]⟩ ⟨3, ![32, 256, 512]⟩ 0 8 ⟨t.val / 4, by omega⟩ v h (ix3 ⟨t.val % 4, by omega⟩ k j) = v (ix3 t k j) := by
  refine congrArg v (funext fun a => Fin.ext ?_)
  match a with
  | ⟨0, _⟩ => show t.val / 4 * 4 + t.val % 4 = t.val; omega
  | ⟨1, _⟩ => rfl
  | ⟨2, _⟩ => rfl

/-! ## The results agree -/

section Agree

open Cert.KernelIdeal.Moe

variable (I : Inputs Ideal) (X : Cert.ReferenceIdeal.Moe.Tokens) (R : Cert.ReferenceIdeal.Moe.Router)
  (b : Cert.ReferenceIdeal.Moe.Choices) (W : Cert.ReferenceIdeal.Moe.Experts)

/-- What each device holds is its part of the whole arrays. -/
structure Parts : Prop where
  x : ∀ c i k, I.x c (ix2 i k) = X (ix2 (row c i) k)
  r : ∀ c k u, I.r c (ix2 k u) = R (ix2 k u)
  idx : ∀ c i a, I.idx c (ix2 i a) = b (ix2 (row c i) a)
  e : ∀ (t : Fin 32) k j, I.e ⟨t.val / 4, by show _ < 8; omega⟩ (ix3 ⟨t.val % 4, by omega⟩ k j) = W (ix3 t k j)

/-- **A device's block of the kernel's result is its block of the reference's.** -/
theorem res_eq (P : Parts I X R b W) (c : Dev Cert.KernelIdeal.nD) (hx : ∀ i k, ∃ r : ℝ, I.x c (ix2 i k) = r) (hr : ∀ k u, ∃ r : ℝ, I.r c (ix2 k u) = r)
    (hn : ∀ i, Names (I.idx c (ix2 i 0)) ∨ Names (I.idx c (ix2 i 1))) (i j : Fin 512) :
    I.res c (ix2 i j) = Cert.ReferenceIdeal.Moe.whole X R b W (ix2 (row c i) j) := by
  choose x hx using hx
  choose r hr using hr
  have hs : scores I c i = fun u => ((∑ k, x i k * r k u : ℝ) : EReal) := by
    funext u
    unfold scores
    simp only [hx, hr, ← EReal.coe_mul]
    exact sum_real _ _
  have hs' : (fun u => ∑ k : Fin 256, X (ix2 (row c i) k) * R (ix2 k u)) = fun u => ((∑ k, x i k * r k u : ℝ) : EReal) := by
    rw [← hs]
    funext u
    unfold scores
    simp only [P.x, P.r]
  have hp : product I c i j = fun t => ∑ k : Fin 256, X (ix2 (row c i) k) * W (ix3 t k j) := by
    funext t
    unfold product prod
    simp only [P.x, P.e]
  rw [res_apply, hs, mixture _ _ _ (hn i), Cert.ReferenceIdeal.Moe.whole_apply, hs', hp, P.idx, P.idx]

end Agree

/-- A whole array of the reference's one device. -/
abbrev arg (m' : (ℓ : Loc Cert.ReferenceIdeal.nD Cert.ReferenceIdeal.τ Cert.ReferenceIdeal.sig) → Buf (Elt Ideal) ℓ) (r : Ref Cert.ReferenceIdeal.sig .tc) :=
  m' (((0 : Dev Cert.ReferenceIdeal.nD).tc : Thread Cert.ReferenceIdeal.nD Cert.ReferenceIdeal.τ).loc r)

/-- **The value claim.** -/
theorem algebraic : Cert.algebraic_KernelIdeal_ReferenceIdeal_pre_finite_and_routed_KernelIdeal := by
  intro m g m' g' hpre hargs
  refine ⟨Cert.ReferenceIdeal.Value.res_main_v80 m' 0, ?_, ?_⟩
  · refine (θ_run Cert.KernelIdeal.defs _ _).mono (fun r h c => ⟨(h.1 c).1.trans ?_, (h.1 c).2⟩) (Cert.KernelIdeal.Moe.run_main (F := Ideal) m g)
    have P : Parts (Cert.KernelIdeal.Moe.inputs m) (arg m' Cert.ReferenceIdeal.main_arg0) (arg m' Cert.ReferenceIdeal.main_arg1)
        (arg m' Cert.ReferenceIdeal.main_arg2) (arg m' Cert.ReferenceIdeal.main_arg3) :=
      { x := fun c i k => (congrFun (hargs c).1 (ix2 i k)).trans (block_rows c _ _ i k)
        r := fun c k u => congrFun (hargs c).2.1 (ix2 k u)
        idx := fun c i a => (congrFun (hargs c).2.2.1 (ix2 i a)).trans (block_rows c _ _ i a)
        e := fun t k j => (congrFun (hargs ⟨t.val / 4, by show _ < 8; omega⟩).2.2.2 _).trans (block_slabs t _ _ k j) }
    rw [Cert.ReferenceIdeal.Moe.result_eq]
    funext y
    obtain ⟨i, j, rfl⟩ : ∃ (i j : Fin 512), y = ix2 i j := ⟨y 0, y 1, ValueIdx.eq_ix2 y⟩
    rw [block_rows]
    exact res_eq _ _ _ _ _ P c (real_tokens _ _ _ _ (hpre c).1) (real_router _ _ _ _ (hpre c).2.1) (routed _ _ _ _ (hpre c).2.2) i j
  · exact (θ_run Cert.ReferenceIdeal.defs _ _).mono (fun r h => h 0) (Cert.ReferenceIdeal.Value.run (F := Ideal) m' g')

end Cert.Proof

end
-- ==== Proof.lean ====
/-
The claims. The kernel's run is taken once, for any float values (`Moe.run_main`): the two frames read it at the machine's
values and at the ideal ones, and the value claim (Proof/Value.lean) reads its result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The two printed texts run the same body. -/
theorem body_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The kernel leaves its arguments and the semaphores as it found them. -/
theorem frame_kernel : Cert.quiescent_Kernel := fun m ρ _ => by
  show (θ_run (Pipeline.defs (Cert.Kernel.pcfgs (F := Bits)) Cert.Kernel.defs₀) _ _) _
  rw [body_same]
  exact Cert.KernelIdeal.Moe.run_frame (F := Bits) m ρ

/-- The idealized kernel leaves its arguments and the semaphores as it found them. -/
theorem frame_kernelIdeal : Cert.quiescent_KernelIdeal := fun m ρ _ =>
  Cert.KernelIdeal.Moe.run_frame (F := Ideal) m ρ

/-- The reference leaves its arguments as it found them; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything claimed. The two frames under the precondition are the frames without it. -/
theorem claim : Cert.Claim := ⟨Cert.Kernel.Gen.facts, Cert.KernelIdeal.Gen.facts, Cert.ReferenceIdeal.Gen.facts, preKernel, preReference,
  frame_kernel, frame_kernelIdeal, fun m ρ _ => frame_kernelIdeal m ρ trivial, frame_reference,
  fun m ρ _ => frame_reference m ρ trivial, trivial, algebraic⟩

end Cert.Proof

end
